-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![2048, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S64x2048 : Shape := ⟨2, ![64, 2048]⟩
abbrev S32x64x1024 : Shape := ⟨3, ![32, 64, 1024]⟩
abbrev S31 : Shape := ⟨1, ![31]⟩
abbrev S_ : Shape := ⟨0, ![]⟩
abbrev S64x1024 : Shape := ⟨2, ![64, 1024]⟩
abbrev S1x64x1024 : Shape := ⟨3, ![1, 64, 1024]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S64x2048, .f32⟩
  | .local _ .vmem, ⟨0, _⟩ => ⟨S2048x1024, .f32⟩
  | .local _ .vmem, ⟨1, _⟩ => ⟨S1024x2048, .f32⟩
  | .local _ .vmem, ⟨2, _⟩ => ⟨S64x2048, .f32⟩
  | .local _ .vmem, ⟨3, _⟩ => ⟨S32x64x1024, .f32⟩
  | .local _ .vmem, ⟨4, _⟩ => ⟨S32x64x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  (ofTc nBuf bufTy 1 127 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_10 : BitVec 32 := 32#32
  let v13 : BitVec 32 := Scalar.addi v2 c32_i32_10
  let c1_i32_11 : BitVec 32 := 1#32
  let v14 : BitVec 32 := Scalar.subi v13 c1_i32_11
  let c32_i32_12 : BitVec 32 := 32#32
  let v15 : BitVec 32 := Scalar.remsi v14 c32_i32_12
  let c64_i32 : BitVec 32 := 64#32
  let v16 : BitVec 32 := Scalar.muli v15 c64_i32
  let v17 : Index := Scalar.indexCast v16
  let c0 : Index := 0#32
  ![v17.toNat, 0]
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_25 : BitVec 32 := 1#32
  let v31 : BitVec 32 := Scalar.muli v7 c1_i32_25
  let v32 : BitVec 32 := Scalar.addi c0_i32_26 v31
  v32.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_35 : BitVec 32 := 1#32
  let v41 : BitVec 32 := Scalar.muli v7 c1_i32_35
  let v42 : BitVec 32 := Scalar.addi c0_i32_36 v41
  v42.toNat
def k0_off2 (d0 : Dev nD) (c0_i32_43 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_41 : BitVec 32 := 64#32
  let v51 : BitVec 32 := Scalar.addi v2 c64_i32_41
  let c2_i32_42 : BitVec 32 := 2#32
  let v52 : BitVec 32 := Scalar.subi v51 c2_i32_42
  let v53 : BitVec 32 := Scalar.subi v52 c0_i32_43
  let c32_i32_44 : BitVec 32 := 32#32
  let v54 : BitVec 32 := Scalar.remsi v53 c32_i32_44
  let c64_i32_45 : BitVec 32 := 64#32
  let v55 : BitVec 32 := Scalar.muli v54 c64_i32_45
  let v56 : Index := Scalar.indexCast v55
  let c0_46 : Index := 0#32
  ![v56.toNat, 0]
def k0_dev5 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_85 : BitVec 32 := 1#32
  let v92 : BitVec 32 := Scalar.muli v7 c1_i32_85
  let v93 : BitVec 32 := Scalar.addi c0_i32_86 v92
  v93.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_95 : BitVec 32 := 1#32
  let v102 : BitVec 32 := Scalar.muli v7 c1_i32_95
  let v103 : BitVec 32 := Scalar.addi c0_i32_96 v102
  v103.toNat
def k0_dev7 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_144 : BitVec 32 := 1#32
  let v153 : BitVec 32 := Scalar.muli v7 c1_i32_144
  let v154 : BitVec 32 := Scalar.addi c0_i32_145 v153
  v154.toNat
def k0_dev8 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_154 : BitVec 32 := 1#32
  let v163 : BitVec 32 := Scalar.muli v7 c1_i32_154
  let v164 : BitVec 32 := Scalar.addi c0_i32_155 v163
  v164.toNat
def k0_dev9 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_203 : BitVec 32 := 1#32
  let v214 : BitVec 32 := Scalar.muli v7 c1_i32_203
  let v215 : BitVec 32 := Scalar.addi c0_i32_204 v214
  v215.toNat
def k0_dev10 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_213 : BitVec 32 := 1#32
  let v224 : BitVec 32 := Scalar.muli v7 c1_i32_213
  let v225 : BitVec 32 := Scalar.addi c0_i32_214 v224
  v225.toNat
def k0_dev11 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_262 : BitVec 32 := 1#32
  let v275 : BitVec 32 := Scalar.muli v7 c1_i32_262
  let v276 : BitVec 32 := Scalar.addi c0_i32_263 v275
  v276.toNat
def k0_dev12 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_272 : BitVec 32 := 1#32
  let v285 : BitVec 32 := Scalar.muli v7 c1_i32_272
  let v286 : BitVec 32 := Scalar.addi c0_i32_273 v285
  v286.toNat
def k0_dev13 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_321 : BitVec 32 := 1#32
  let v336 : BitVec 32 := Scalar.muli v7 c1_i32_321
  let v337 : BitVec 32 := Scalar.addi c0_i32_322 v336
  v337.toNat
def k0_dev14 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_331 : BitVec 32 := 1#32
  let v346 : BitVec 32 := Scalar.muli v7 c1_i32_331
  let v347 : BitVec 32 := Scalar.addi c0_i32_332 v346
  v347.toNat
def k0_dev15 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_380 : BitVec 32 := 1#32
  let v397 : BitVec 32 := Scalar.muli v7 c1_i32_380
  let v398 : BitVec 32 := Scalar.addi c0_i32_381 v397
  v398.toNat
def k0_dev16 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_390 : BitVec 32 := 1#32
  let v407 : BitVec 32 := Scalar.muli v7 c1_i32_390
  let v408 : BitVec 32 := Scalar.addi c0_i32_391 v407
  v408.toNat
def k0_dev17 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_439 : BitVec 32 := 1#32
  let v458 : BitVec 32 := Scalar.muli v7 c1_i32_439
  let v459 : BitVec 32 := Scalar.addi c0_i32_440 v458
  v459.toNat
def k0_dev18 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_449 : BitVec 32 := 1#32
  let v468 : BitVec 32 := Scalar.muli v7 c1_i32_449
  let v469 : BitVec 32 := Scalar.addi c0_i32_450 v468
  v469.toNat
def k0_dev19 (d0 : Dev nD) : Nat :=
  let c0_i32_499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_498 : BitVec 32 := 1#32
  let v519 : BitVec 32 := Scalar.muli v7 c1_i32_498
  let v520 : BitVec 32 := Scalar.addi c0_i32_499 v519
  v520.toNat
def k0_dev20 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_508 : BitVec 32 := 1#32
  let v529 : BitVec 32 := Scalar.muli v7 c1_i32_508
  let v530 : BitVec 32 := Scalar.addi c0_i32_509 v529
  v530.toNat
def k0_dev21 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_557 : BitVec 32 := 1#32
  let v580 : BitVec 32 := Scalar.muli v7 c1_i32_557
  let v581 : BitVec 32 := Scalar.addi c0_i32_558 v580
  v581.toNat
def k0_dev22 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_567 : BitVec 32 := 1#32
  let v590 : BitVec 32 := Scalar.muli v7 c1_i32_567
  let v591 : BitVec 32 := Scalar.addi c0_i32_568 v590
  v591.toNat
def k0_dev23 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_616 : BitVec 32 := 1#32
  let v641 : BitVec 32 := Scalar.muli v7 c1_i32_616
  let v642 : BitVec 32 := Scalar.addi c0_i32_617 v641
  v642.toNat
def k0_dev24 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_626 : BitVec 32 := 1#32
  let v651 : BitVec 32 := Scalar.muli v7 c1_i32_626
  let v652 : BitVec 32 := Scalar.addi c0_i32_627 v651
  v652.toNat
def k0_dev25 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_675 : BitVec 32 := 1#32
  let v702 : BitVec 32 := Scalar.muli v7 c1_i32_675
  let v703 : BitVec 32 := Scalar.addi c0_i32_676 v702
  v703.toNat
def k0_dev26 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_685 : BitVec 32 := 1#32
  let v712 : BitVec 32 := Scalar.muli v7 c1_i32_685
  let v713 : BitVec 32 := Scalar.addi c0_i32_686 v712
  v713.toNat
def k0_dev27 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_734 : BitVec 32 := 1#32
  let v763 : BitVec 32 := Scalar.muli v7 c1_i32_734
  let v764 : BitVec 32 := Scalar.addi c0_i32_735 v763
  v764.toNat
def k0_dev28 (d0 : Dev nD) : Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_744 : BitVec 32 := 1#32
  let v773 : BitVec 32 := Scalar.muli v7 c1_i32_744
  let v774 : BitVec 32 := Scalar.addi c0_i32_745 v773
  v774.toNat
def k0_dev29 (d0 : Dev nD) : Nat :=
  let c0_i32_794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_793 : BitVec 32 := 1#32
  let v824 : BitVec 32 := Scalar.muli v7 c1_i32_793
  let v825 : BitVec 32 := Scalar.addi c0_i32_794 v824
  v825.toNat
def k0_dev30 (d0 : Dev nD) : Nat :=
  let c0_i32_804 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_803 : BitVec 32 := 1#32
  let v834 : BitVec 32 := Scalar.muli v7 c1_i32_803
  let v835 : BitVec 32 := Scalar.addi c0_i32_804 v834
  v835.toNat
def k0_dev31 (d0 : Dev nD) : Nat :=
  let c0_i32_853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_852 : BitVec 32 := 1#32
  let v885 : BitVec 32 := Scalar.muli v7 c1_i32_852
  let v886 : BitVec 32 := Scalar.addi c0_i32_853 v885
  v886.toNat
def k0_dev32 (d0 : Dev nD) : Nat :=
  let c0_i32_863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_862 : BitVec 32 := 1#32
  let v895 : BitVec 32 := Scalar.muli v7 c1_i32_862
  let v896 : BitVec 32 := Scalar.addi c0_i32_863 v895
  v896.toNat
def k0_dev33 (d0 : Dev nD) : Nat :=
  let c0_i32_912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_911 : BitVec 32 := 1#32
  let v946 : BitVec 32 := Scalar.muli v7 c1_i32_911
  let v947 : BitVec 32 := Scalar.addi c0_i32_912 v946
  v947.toNat
def k0_dev34 (d0 : Dev nD) : Nat :=
  let c0_i32_922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_921 : BitVec 32 := 1#32
  let v956 : BitVec 32 := Scalar.muli v7 c1_i32_921
  let v957 : BitVec 32 := Scalar.addi c0_i32_922 v956
  v957.toNat
def k0_dev35 (d0 : Dev nD) : Nat :=
  let c0_i32_971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_970 : BitVec 32 := 1#32
  let v1007 : BitVec 32 := Scalar.muli v7 c1_i32_970
  let v1008 : BitVec 32 := Scalar.addi c0_i32_971 v1007
  v1008.toNat
def k0_dev36 (d0 : Dev nD) : Nat :=
  let c0_i32_981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_980 : BitVec 32 := 1#32
  let v1017 : BitVec 32 := Scalar.muli v7 c1_i32_980
  let v1018 : BitVec 32 := Scalar.addi c0_i32_981 v1017
  v1018.toNat
def k0_dev37 (d0 : Dev nD) : Nat :=
  let c0_i32_1030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1029 : BitVec 32 := 1#32
  let v1068 : BitVec 32 := Scalar.muli v7 c1_i32_1029
  let v1069 : BitVec 32 := Scalar.addi c0_i32_1030 v1068
  v1069.toNat
def k0_dev38 (d0 : Dev nD) : Nat :=
  let c0_i32_1040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1039 : BitVec 32 := 1#32
  let v1078 : BitVec 32 := Scalar.muli v7 c1_i32_1039
  let v1079 : BitVec 32 := Scalar.addi c0_i32_1040 v1078
  v1079.toNat
def k0_dev39 (d0 : Dev nD) : Nat :=
  let c0_i32_1089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1088 : BitVec 32 := 1#32
  let v1129 : BitVec 32 := Scalar.muli v7 c1_i32_1088
  let v1130 : BitVec 32 := Scalar.addi c0_i32_1089 v1129
  v1130.toNat
def k0_dev40 (d0 : Dev nD) : Nat :=
  let c0_i32_1099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1098 : BitVec 32 := 1#32
  let v1139 : BitVec 32 := Scalar.muli v7 c1_i32_1098
  let v1140 : BitVec 32 := Scalar.addi c0_i32_1099 v1139
  v1140.toNat
def k0_dev41 (d0 : Dev nD) : Nat :=
  let c0_i32_1148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1147 : BitVec 32 := 1#32
  let v1190 : BitVec 32 := Scalar.muli v7 c1_i32_1147
  let v1191 : BitVec 32 := Scalar.addi c0_i32_1148 v1190
  v1191.toNat
def k0_dev42 (d0 : Dev nD) : Nat :=
  let c0_i32_1158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1157 : BitVec 32 := 1#32
  let v1200 : BitVec 32 := Scalar.muli v7 c1_i32_1157
  let v1201 : BitVec 32 := Scalar.addi c0_i32_1158 v1200
  v1201.toNat
def k0_dev43 (d0 : Dev nD) : Nat :=
  let c0_i32_1207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1206 : BitVec 32 := 1#32
  let v1251 : BitVec 32 := Scalar.muli v7 c1_i32_1206
  let v1252 : BitVec 32 := Scalar.addi c0_i32_1207 v1251
  v1252.toNat
def k0_dev44 (d0 : Dev nD) : Nat :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1216 : BitVec 32 := 1#32
  let v1261 : BitVec 32 := Scalar.muli v7 c1_i32_1216
  let v1262 : BitVec 32 := Scalar.addi c0_i32_1217 v1261
  v1262.toNat
def k0_dev45 (d0 : Dev nD) : Nat :=
  let c0_i32_1266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1265 : BitVec 32 := 1#32
  let v1312 : BitVec 32 := Scalar.muli v7 c1_i32_1265
  let v1313 : BitVec 32 := Scalar.addi c0_i32_1266 v1312
  v1313.toNat
def k0_dev46 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1275 : BitVec 32 := 1#32
  let v1322 : BitVec 32 := Scalar.muli v7 c1_i32_1275
  let v1323 : BitVec 32 := Scalar.addi c0_i32_1276 v1322
  v1323.toNat
def k0_dev47 (d0 : Dev nD) : Nat :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1324 : BitVec 32 := 1#32
  let v1373 : BitVec 32 := Scalar.muli v7 c1_i32_1324
  let v1374 : BitVec 32 := Scalar.addi c0_i32_1325 v1373
  v1374.toNat
def k0_dev48 (d0 : Dev nD) : Nat :=
  let c0_i32_1335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1334 : BitVec 32 := 1#32
  let v1383 : BitVec 32 := Scalar.muli v7 c1_i32_1334
  let v1384 : BitVec 32 := Scalar.addi c0_i32_1335 v1383
  v1384.toNat
def k0_dev49 (d0 : Dev nD) : Nat :=
  let c0_i32_1384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1383 : BitVec 32 := 1#32
  let v1434 : BitVec 32 := Scalar.muli v7 c1_i32_1383
  let v1435 : BitVec 32 := Scalar.addi c0_i32_1384 v1434
  v1435.toNat
def k0_dev50 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1393 : BitVec 32 := 1#32
  let v1444 : BitVec 32 := Scalar.muli v7 c1_i32_1393
  let v1445 : BitVec 32 := Scalar.addi c0_i32_1394 v1444
  v1445.toNat
def k0_dev51 (d0 : Dev nD) : Nat :=
  let c0_i32_1443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1442 : BitVec 32 := 1#32
  let v1495 : BitVec 32 := Scalar.muli v7 c1_i32_1442
  let v1496 : BitVec 32 := Scalar.addi c0_i32_1443 v1495
  v1496.toNat
def k0_dev52 (d0 : Dev nD) : Nat :=
  let c0_i32_1453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1452 : BitVec 32 := 1#32
  let v1505 : BitVec 32 := Scalar.muli v7 c1_i32_1452
  let v1506 : BitVec 32 := Scalar.addi c0_i32_1453 v1505
  v1506.toNat
def k0_dev53 (d0 : Dev nD) : Nat :=
  let c0_i32_1502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1501 : BitVec 32 := 1#32
  let v1556 : BitVec 32 := Scalar.muli v7 c1_i32_1501
  let v1557 : BitVec 32 := Scalar.addi c0_i32_1502 v1556
  v1557.toNat
def k0_dev54 (d0 : Dev nD) : Nat :=
  let c0_i32_1512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1511 : BitVec 32 := 1#32
  let v1566 : BitVec 32 := Scalar.muli v7 c1_i32_1511
  let v1567 : BitVec 32 := Scalar.addi c0_i32_1512 v1566
  v1567.toNat
def k0_dev55 (d0 : Dev nD) : Nat :=
  let c0_i32_1561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1560 : BitVec 32 := 1#32
  let v1617 : BitVec 32 := Scalar.muli v7 c1_i32_1560
  let v1618 : BitVec 32 := Scalar.addi c0_i32_1561 v1617
  v1618.toNat
def k0_dev56 (d0 : Dev nD) : Nat :=
  let c0_i32_1571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1570 : BitVec 32 := 1#32
  let v1627 : BitVec 32 := Scalar.muli v7 c1_i32_1570
  let v1628 : BitVec 32 := Scalar.addi c0_i32_1571 v1627
  v1628.toNat
def k0_dev57 (d0 : Dev nD) : Nat :=
  let c0_i32_1620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1619 : BitVec 32 := 1#32
  let v1678 : BitVec 32 := Scalar.muli v7 c1_i32_1619
  let v1679 : BitVec 32 := Scalar.addi c0_i32_1620 v1678
  v1679.toNat
def k0_dev58 (d0 : Dev nD) : Nat :=
  let c0_i32_1630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1629 : BitVec 32 := 1#32
  let v1688 : BitVec 32 := Scalar.muli v7 c1_i32_1629
  let v1689 : BitVec 32 := Scalar.addi c0_i32_1630 v1688
  v1689.toNat
def k0_dev59 (d0 : Dev nD) : Nat :=
  let c0_i32_1679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1678 : BitVec 32 := 1#32
  let v1739 : BitVec 32 := Scalar.muli v7 c1_i32_1678
  let v1740 : BitVec 32 := Scalar.addi c0_i32_1679 v1739
  v1740.toNat
def k0_dev60 (d0 : Dev nD) : Nat :=
  let c0_i32_1689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1688 : BitVec 32 := 1#32
  let v1749 : BitVec 32 := Scalar.muli v7 c1_i32_1688
  let v1750 : BitVec 32 := Scalar.addi c0_i32_1689 v1749
  v1750.toNat
def k0_dev61 (d0 : Dev nD) : Nat :=
  let c0_i32_1738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1737 : BitVec 32 := 1#32
  let v1800 : BitVec 32 := Scalar.muli v7 c1_i32_1737
  let v1801 : BitVec 32 := Scalar.addi c0_i32_1738 v1800
  v1801.toNat
def k0_dev62 (d0 : Dev nD) : Nat :=
  let c0_i32_1748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1747 : BitVec 32 := 1#32
  let v1810 : BitVec 32 := Scalar.muli v7 c1_i32_1747
  let v1811 : BitVec 32 := Scalar.addi c0_i32_1748 v1810
  v1811.toNat
def k0_dev63 (d0 : Dev nD) : Nat :=
  let c0_i32_1797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1796 : BitVec 32 := 1#32
  let v1861 : BitVec 32 := Scalar.muli v7 c1_i32_1796
  let v1862 : BitVec 32 := Scalar.addi c0_i32_1797 v1861
  v1862.toNat
def k0_dev64 (d0 : Dev nD) : Nat :=
  let c0_i32_1807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1806 : BitVec 32 := 1#32
  let v1871 : BitVec 32 := Scalar.muli v7 c1_i32_1806
  let v1872 : BitVec 32 := Scalar.addi c0_i32_1807 v1871
  v1872.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x32768 : Shape := ⟨2, ![2048, 32768]⟩
abbrev S32768x2048 : Shape := ⟨2, ![32768, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S32768x2048, .f32⟩
  | .hbm, ⟨2, _⟩ => ⟨S2048x2048, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/- The kernel's body as a chain of steps: the entry handshake, the first partial product, thirty-one hops around the ring
   that differ only in their number, and the waits for the sends. One definition per kind of step, the number a parameter;
   the printed body is the chain, by definitional unfolding. -/
module

public import proofs.«01_k».proof.Proof.Gen.KernelIdeal
public import proofs.«01_k».proof.Proof.Gen.KernelIdeal.Skeleton

@[expose] public section

noncomputable section

namespace Cert.KernelIdeal.Steps

open Cert.KernelIdeal Cert.KernelIdeal.Gen
open Idealize.ShloMosaic Idealize.SL.Sem

variable {F : FTy → Type} [FloatOps F]

/-! ## The memrefs and semaphores, by stream and by number

`s = false` is the stream of the left half of the columns, `s = true` that of the right half. -/

abbrev aM : Memref sig .tc .vmem S2048x1024 .f32 := Memref.whole cc0_stg0_0
abbrev bM : Memref sig .tc .vmem S1024x2048 .f32 := Memref.whole cc0_stg1_0
abbrev oM : Memref sig .tc .vmem S64x2048 .f32 := Memref.whole cc0_stg2_0

/-- The buffer of thirty-two slots a stream travels through; -/
def cM : Bool → Memref sig .tc .vmem S32x64x1024 .f32
  | false => Memref.whole cc0_scratch0
  | true => Memref.whole cc0_scratch1
/-- its send semaphores and its receive semaphores, one per hop. -/
def sndA : Bool → DmaSems sig S31
  | false => cc0_scratch2
  | true => cc0_scratch4
def rcvA : Bool → DmaSems sig S31
  | false => cc0_scratch3
  | true => cc0_scratch5

theorem slot_inb (j : Fin 32) : ∀ a, (![j.val, 0, 0] : Fin 3 → ℕ) a + S1x64x1024.size a ≤ S32x64x1024.size a := by
  have := j.isLt
  intro a
  fin_cases a
  · show j.val + 1 ≤ 32; omega
  · show 0 + 64 ≤ 64; omega
  · show 0 + 1024 ≤ 1024; omega

theorem sem_inb (h : Fin 31) : ∀ a, (![h.val] : Fin 1 → ℕ) a + S1.size a ≤ S31.size a := by
  have := h.isLt
  intro a
  fin_cases a
  show h.val + 1 ≤ 31; omega

/-- Slot `j`'s rectangle in a stream's buffer, and the slot as a transfer names it. -/
abbrev slotR (j : Fin 32) : Rect S32x64x1024 := Rect.unit (s := S32x64x1024) ![j.val, 0, 0] S1x64x1024.size (slot_inb j)
abbrev slotM (s : Bool) (j : Fin 32) : Memref sig .tc .vmem S64x1024 .f32 :=
  ((cM s).slice (slotR j) (fun _ => rfl)).squeeze S64x1024 squeezes_S1x64x1024_S64x1024

/-- Hop `h`'s semaphore in an array of them. -/
abbrev semAt (A : DmaSems sig S31) (h : Fin 31) : DmaSem sig :=
  ((A.slice (Rect.unit (s := S31) ![h.val] S1.size (sem_inb h))).squeeze S_ squeezes_S1_S_).sem
abbrev sndS (s : Bool) (h : Fin 31) : DmaSem sig := semAt (sndA s) h
abbrev rcvS (s : Bool) (h : Fin 31) : DmaSem sig := semAt (rcvA s) h

/-- The barrier semaphore. -/
abbrev barS : Sem sig := (SemArray.scalar (sig.barrier 0 rfl) : Sems sig S_).sem

/-- The device after `d`, as the kernel computes it. -/
abbrev rightOf (d : Dev nD) : Dev nD := ⟨k0_dev2 d, k0_dev2_lt d⟩
abbrev leftOf (d : Dev nD) : Dev nD := ⟨k0_dev1 d, k0_dev1_lt d⟩

/-! ## The steps -/

abbrev P (F : FTy → Type) [FloatOps F] : Type 1 := Prog (TpuEff nD τ sig (Elt F) Λ₀ .tc) PUnit

/-- One transfer: the stream's slot `h` to slot `h + 1` on the device after. -/
abbrev sendStep (d : Dev nD) (s : Bool) (h : Fin 31) (k : P F) : P F :=
  Prog.op (.enqueueDma (slotM s h.castSucc) (.remote (Dev.tc (rightOf d)) (slotM s h.succ) (.dma (sndS s h))) (.dma (rcvS s h))
    ((View.wordExact_bits rfl).reshape _ _) ((View.wordExact_bits rfl).reshape _ _) ⟨⟨rfl, Or.inl rfl⟩, trivial⟩) fun _ => k

/-- The wait for hop `h`'s arrival. -/
abbrev recvStep (s : Bool) (h : Fin 31) (k : P F) : P F :=
  Prog.op (.waitDma2 (rcvS s h) (slotM s h.castSucc) (slotM s h.succ) ((View.wordExact_bits rfl).reshape _ _) ((View.wordExact_bits rfl).reshape _ _)) fun _ => k

/-- The wait for hop `h`'s send. -/
abbrev sentStep (s : Bool) (h : Fin 31) (k : P F) : P F :=
  Prog.op (.waitDma2 (sndS s h) (slotM s h.succ) (slotM s h.castSucc) ((View.wordExact_bits rfl).reshape _ _) ((View.wordExact_bits rfl).reshape _ _)) fun _ => k

abbrev loadSlot (s : Bool) (j : Fin 32) (k : Vec F S1x64x1024 .f32 → P F) : P F :=
  Prog.op (.load (cM s) (slotR j).toLoadRect (View.loadsAt_vmem h_S1x64x1024)) k
abbrev storeSlot (s : Bool) (j : Fin 32) (v : Vec F S1x64x1024 .f32) (k : P F) : P F :=
  Prog.op (.store (cM s) (slotR j) v Finset.univ (View.stores_vmem_bits_univ h_S1x64x1024 rfl) (.inl rfl)) fun _ => k

/-- The rows of the left operand hop `h` multiplies. -/
abbrev rowsR (d : Dev nD) (h : Fin 31) : Rect S2048x1024 :=
  Rect.unit (s := S2048x1024) (k0_off2 d (BitVec.ofNat 32 h.val)) S64x1024.size (k0_off2_inb d h)
abbrev rows0R (d : Dev nD) : Rect S2048x1024 :=
  Rect.unit (s := S2048x1024) (k0_off1 d) S64x1024.size (k0_off1_inb d)
abbrev allR : Rect S1024x2048 := Rect.unit (s := S1024x2048) ![0, 0] S1024x2048.size inb_S1024x2048_S1024x2048_0_0
abbrev outL : Rect S64x2048 := Rect.unit (s := S64x2048) ![0, 0] S64x1024.size inb_S64x2048_S64x1024_0_0
abbrev outR : Rect S64x2048 := Rect.unit (s := S64x2048) ![0, 1024] S64x1024.size inb_S64x2048_S64x1024_0_1024

/-- Both streams' transfers of hop `h`. -/
def starts (d : Dev nD) (h : Fin 31) (k : P F) : P F := sendStep d false h (sendStep d true h k)

/-- The two operands of hop `h`'s product, loaded. -/
def operands (d : Dev nD) (h : Fin 31) (k : Vec F S64x1024 .f32 → Vec F S1024x2048 .f32 → P F) : P F :=
  Prog.op (.load aM (rowsR d h).toLoadRect (View.loadsAt_vmem h_S64x1024)) fun a =>
    Prog.op (.load bM allR.toLoadRect (View.loadsAt_vmem h_S1024x2048)) fun b => k a b

/-- The arrival of hop `h` on one stream and the product's half added to the slot it filled. -/
def accL (h : Fin 31) (a : Vec F S64x1024 .f32) (b : Vec F S1024x2048 .f32) (k : P F) : P F :=
  recvStep false h <| loadSlot false h.succ fun v => loadSlot false h.succ fun _ => storeSlot false h.succ (k0_pay6 a b v) k
def accR (h : Fin 31) (a : Vec F S64x1024 .f32) (b : Vec F S1024x2048 .f32) (k : P F) : P F :=
  recvStep true h <| loadSlot true h.succ fun v => loadSlot true h.succ fun _ => storeSlot true h.succ (k0_pay7 (k0_pay5 a b) v) k

/-- One of the first thirty hops. -/
def hop (d : Dev nD) (h : Fin 31) (k : P F) : P F :=
  starts d h <| operands d h fun a b => accL h a b <| accR h a b k

/-- The last hop writes the result. -/
def lastHop (d : Dev nD) (k : P F) : P F :=
  starts d 30 <| operands d 30 fun a b =>
    recvStep false 30 <| loadSlot false 31 fun v =>
    Prog.op (.load oM outL.toLoadRect (View.loadsAt_vmem h_S64x1024)) fun _ =>
    Prog.op (.store oM outL (k0_pay106 a b v) Finset.univ (View.stores_vmem_bits_univ h_S64x1024 rfl) (.inl rfl)) fun _ =>
    recvStep true 30 <| loadSlot true 31 fun v' =>
    Prog.op (.load oM outR.toLoadRect (View.loadsAt_vmem h_S64x1024)) fun _ =>
    Prog.op (.store oM outR (k0_pay107 (k0_pay105 a b) v') Finset.univ (View.stores_vmem_bits_univ h_S64x1024 rfl) (.inl rfl)) fun _ => k

/-- Hops `h`, `h + 1`, …, `n` of them. -/
def hops (d : Dev nD) : (n h : ℕ) → h + n ≤ 30 → P F → P F
  | 0, _, _, k => k
  | n + 1, h, hn, k => hop d ⟨h, by omega⟩ (hops d n (h + 1) (by omega) k)

/-- The send waits of hops `h`, `h + 1`, …, `n` of them. -/
def sents : (n h : ℕ) → h + n ≤ 31 → P F → P F
  | 0, _, _, k => k
  | n + 1, h, hn, k => sentStep false ⟨h, by omega⟩ <| sentStep true ⟨h, by omega⟩ <| sents n (h + 1) (by omega) k

/-- The entry: both neighbours signalled, both signals awaited. -/
def entry (d : Dev nD) (k : P F) : P F :=
  Prog.bind (semSignalWord (leftOf d) barS 1#32) fun _ =>
  Prog.bind (semSignalWord (rightOf d) barS 1#32) fun _ =>
  Prog.bind (semWaitWord barS 2#32) fun _ => k

/-- The first partial product, stored to slot 0 of both streams. -/
def first (d : Dev nD) (k : P F) : P F :=
  Prog.op (.load aM (rows0R d).toLoadRect (View.loadsAt_vmem h_S64x1024)) fun a =>
  Prog.op (.load bM allR.toLoadRect (View.loadsAt_vmem h_S1024x2048)) fun b =>
  loadSlot false 0 fun _ => storeSlot false 0 (k0_pay2 a b) <|
  loadSlot true 0 fun _ => storeSlot true 0 (k0_pay4 (k0_pay3 a b)) k

/-- The body. -/
def body : P F :=
  Prog.op .deviceId fun d => entry d <| first d <| hops d 30 0 (by omega) <| lastHop d <| sents 31 0 (by omega) <| Prog.ret ⟨⟩

set_option maxRecDepth 100000 in
theorem body_eq : cc0_body (F := F) aM (Memref.isWhole_whole _) bM (Memref.isWhole_whole _) oM (Memref.isWhole_whole _)
    (Memref.whole cc0_scratch0) (Memref.isWhole_whole _) (Memref.whole cc0_scratch1) (Memref.isWhole_whole _)
    cc0_scratch2 cc0_scratch3 cc0_scratch4 cc0_scratch5 = body := rfl

end Cert.KernelIdeal.Steps

end
-- ==== Proof.Protocol.lean ====
/- The protocol of the ring: who signals whom, what each signal and each arrival hands over, and what every slot holds.

   Each device's barrier cell has two duties of one unit. The device after it pays one and hands over the slots its copies
   will land in; the device before it pays the other and hands over nothing. Each hop of each stream has a receive cell,
   paid by the copy from the device before, and a send cell, paid by the device's own copy. -/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.KernelIdeal.Protocol

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The ring -/

set_option backward.proofsInPublic true in
def nxt (c : Dev nD) : Dev nD := ⟨(c.val + 1) % 32, Nat.mod_lt _ (by decide)⟩
set_option backward.proofsInPublic true in
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide

theorem rightOf_eq (c : Dev nD) : rightOf c = nxt c := Fin.ext (k0_dev2_eq c)
theorem leftOf_eq (c : Dev nD) : leftOf c = prv c := Fin.ext (k0_dev1_eq c)

def ring : Dev nD ≃ Dev nD := ⟨nxt, prv, prv_nxt, nxt_prv⟩

/-! ## The cells -/

/-- A transfer semaphore's name: receive or send, the stream, the hop. -/
abbrev DK : Type := Bool × Bool × Fin 31

/-- The kernel's own semaphores, by name. -/
def dsem : DK → DmaSem sig
  | (false, s, h) => sndS s h
  | (true, s, h) => rcvS s h

/-- A semaphore's position, and back. -/
def dbase : Bool → Bool → ℕ
  | false, false => 3
  | true, false => 34
  | false, true => 65
  | true, true => 96
set_option maxRecDepth 10000 in
theorem dsem_val (k : DK) : (dsem k).val = dbase k.1 k.2.1 + k.2.2.val := by
  obtain ⟨r, s, h⟩ := k; revert r s h; decide

def decodeN (n : ℕ) : Option DK :=
  if h : 3 ≤ n ∧ n < 34 then some (false, false, ⟨n - 3, by omega⟩)
  else if h : 34 ≤ n ∧ n < 65 then some (true, false, ⟨n - 34, by omega⟩)
  else if h : 65 ≤ n ∧ n < 96 then some (false, true, ⟨n - 65, by omega⟩)
  else if h : 96 ≤ n ∧ n < 127 then some (true, true, ⟨n - 96, by omega⟩)
  else none
theorem decodeN_base (r s : Bool) (h : Fin 31) (n : ℕ) (e : n = dbase r s + h.val) : decodeN n = some (r, s, h) := by
  have := h.isLt
  have hn {k k' : DK} (h1 : k.1 = k'.1) (h2 : k.2.1 = k'.2.1) (h3 : k.2.2.val = k'.2.2.val) : some k = some k' :=
    congrArg some (Prod.ext h1 (Prod.ext h2 (Fin.ext h3)))
  cases r <;> cases s <;> simp only [dbase] at e <;> unfold decodeN
  · rw [dif_pos (by omega)]; exact hn rfl rfl (by dsimp only; omega)
  · rw [dif_neg (by omega), dif_neg (by omega), dif_pos (by omega)]; exact hn rfl rfl (by dsimp only; omega)
  · rw [dif_neg (by omega), dif_pos (by omega)]; exact hn rfl rfl (by dsimp only; omega)
  · rw [dif_neg (by omega), dif_neg (by omega), dif_neg (by omega), dif_pos (by omega)]; exact hn rfl rfl (by dsimp only; omega)

def decode (q : DmaSem sig) : Option DK := decodeN q.val
theorem decode_dsem (k : DK) : decode (dsem k) = some k := by
  exact decodeN_base _ _ _ _ (dsem_val k)

theorem dsem_injective : Function.Injective dsem := fun a b h =>
  Option.some.inj ((decode_dsem a).symm.trans ((congrArg decode h).trans (decode_dsem b)))

abbrev barCell (c : Dev nD) : GSem nD τ sig := ((c : Thread nD τ), .reg barS)
abbrev dCell (c : Dev nD) (k : DK) : GSem nD τ sig := ((c : Thread nD τ), .dma (dsem k))
abbrev sendCell (c : Dev nD) (s : Bool) (h : Fin 31) : GSem nD τ sig := dCell c (false, s, h)
abbrev recvCell (c : Dev nD) (s : Bool) (h : Fin 31) : GSem nD τ sig := dCell c (true, s, h)

/-- What one slot's copy credits. -/
abbrev N (s : Bool) : ℕ := (slotM s 0).view.dmaCredit
theorem N_pos (s : Bool) : 0 < N s := View.dmaCredit_pos _ (by decide)
theorem credit_slot (s : Bool) (j : Fin 32) : (slotM s j).view.dmaCredit = N s := rfl

/-! ## Contents -/

/-- The two operands as staged on device `c`. -/
def astg (c : Dev nD) : (cc0_stg0_0 : Ref sig .tc).ty.Contents (Elt F) :=
  (win0_0.blk (0 : Fin 1)).view.read (Elt F) ((s₀ m ρ).mem ((c : Thread nD τ).loc main_arg0))
def bstg (c : Dev nD) : (cc0_stg1_0 : Ref sig .tc).ty.Contents (Elt F) :=
  (win0_1.blk (0 : Fin 1)).view.read (Elt F) ((s₀ m ρ).mem ((c : Thread nD τ).loc main_arg1))

/-- The rows a device loads at its first step and at hop `h`, and its right operand as loaded. -/
def rows0 (c : Dev nD) : Vec F S64x1024 .f32 := aM.view.readAt (Elt F) (rows0R c).toLoadRect (astg m ρ c)
def rowsAt (c : Dev nD) (h : Fin 31) : Vec F S64x1024 .f32 := aM.view.readAt (Elt F) (rowsR c h).toLoadRect (astg m ρ c)
def ball (c : Dev nD) : Vec F S1024x2048 .f32 := bM.view.readAt (Elt F) allR.toLoadRect (bstg m ρ c)

/-- The product of hop `h`, both halves; -/
def prod (c : Dev nD) (h : Fin 31) : FVec F S64x2048 .f32 := k0_pay5 (rowsAt m ρ c h) (ball m ρ c)
/-- the running sum that sits in slot `j` of device `c`, both halves. -/
def acc : Fin 32 → Dev nD → FVec F S64x2048 .f32 :=
  Fin.induction (motive := fun _ => Dev nD → FVec F S64x2048 .f32) (fun c => k0_pay1 (rows0 m ρ c) (ball m ρ c))
    (fun h prev c => addf (prev (prv c)) (prod m ρ c h))

theorem acc_zero (c : Dev nD) : acc m ρ 0 c = k0_pay1 (rows0 m ρ c) (ball m ρ c) := rfl
theorem acc_succ (h : Fin 31) (c : Dev nD) : acc m ρ h.succ c = addf (acc m ρ h.castSucc (prv c)) (prod m ρ c h) :=
  congrFun (Fin.induction_succ (motive := fun _ => Dev nD → FVec F S64x2048 .f32) _ _ h) c

/-- The half of the columns a stream carries. -/
def half (s : Bool) (P : FVec F S64x2048 .f32) : FVec F S64x1024 .f32 :=
  match s with
  | false => extractStridedSlice S64x1024 ![0, 0] P slices_S64x2048_o0_0_S64x1024
  | true => extractStridedSlice S64x1024 ![0, 1024] P slices_S64x2048_o0_1024_S64x1024

theorem half_addf (s : Bool) (P Q : FVec F S64x2048 .f32) : half s (addf P Q) = addf (half s P) (half s Q) := by cases s <;> rfl

/-! ## What the cells hand over -/

/-- Slot `j` of stream `s` on device `c`, reading `X`; at any contents. -/
def slot (c : Dev nD) (s : Bool) (j : Fin 32) (X : FVec F S64x1024 .f32) : sProp 𝕄 := owns (c : Thread nD τ) (slotM s j) fullShare X
def slotAny (c : Dev nD) (s : Bool) (j : Fin 32) : sProp 𝕄 :=
  iprop(∃ f, (slotM s j).view.loc (c : Thread nD τ) ↦[(slotM s j).view.set]{fullShare} f)

omit [FloatOps F] in
instance slot_storable (c : Dev nD) (s) (j) (X) : BI.Storable (upEmb : UEmb _ 𝕄) (slot (F := F) c s j X) := by unfold slot; infer_instance
omit [FloatOps F] in
instance slotAny_storable (c : Dev nD) (s) (j) : BI.Storable (upEmb : UEmb _ 𝕄) (slotAny (F := F) c s j) := by unfold slotAny; infer_instance

omit [FloatOps F] in
theorem slot_any (c : Dev nD) (s) (j) (X) : slot (F := F) c s j X ⊢ slotAny c s j := by
  unfold slot slotAny owns
  iintro ⟨%f, -, H⟩; iexists f; iexact H

/-- All landing slots of device `c`: both streams, slots 1 to 31. -/
def landing (c : Dev nD) : sProp 𝕄 :=
  bigSep Finset.univ fun h : Fin 31 => iprop(slotAny (F := F) c false h.succ ∗ slotAny c true h.succ)

omit [FloatOps F] in
instance landing_storable (c : Dev nD) : BI.Storable (upEmb : UEmb _ 𝕄) (landing (F := F) c) := by unfold landing; infer_instance

/-- What a transfer cell's round hands over. -/
def dPay (c : Dev nD) : DK → sProp 𝕄
  | (true, s, h) => slot c s h.succ (half s (acc m ρ h.castSucc (prv c)))
  | (false, s, h) => slot c s h.castSucc (half s (acc m ρ h.castSucc c))

instance dPay_storable (c : Dev nD) (k : DK) : BI.Storable (upEmb : UEmb _ 𝕄) (dPay (F := F) m ρ c k) := by
  obtain ⟨r, s, h⟩ := k
  cases r <;> (unfold dPay; infer_instance)

/-- The units one duty of a cell is worth. -/
def worth : SemLoc sig → ℕ
  | .reg _ => 1
  | .dma q => match decode q with
    | some k => N k.2.1
    | none => 1
theorem worth_pos (sm : SemLoc sig) : 0 < worth sm := by
  unfold worth; split
  · exact Nat.one_pos
  · split
    · exact N_pos _
    · exact Nat.one_pos

/-- The duties of a cell's only round. -/
def dutiesOf : SemLoc sig → Finset Bool
  | .reg _ => Finset.univ
  | .dma q => if (decode q).isSome then {false} else ∅

def payOf (c : Dev nD) (d : Bool) : SemLoc sig → sProp 𝕄
  | .reg _ => if d then landing (nxt c) else iprop(emp)
  | .dma q => match decode q with
    | some k => dPay m ρ c k
    | none => iprop(emp)

instance payOf_storable (c : Dev nD) (d : Bool) (sm : SemLoc sig) : BI.Storable (upEmb : UEmb _ 𝕄) (payOf (F := F) m ρ c d sm) := by
  unfold payOf
  (repeat' split) <;> infer_instance

/-- One round per cell. -/
def ringRd : Rounds.Schedule (GSem nD τ sig) Bool 𝕄 where
  duties g r := if r = 0 ∧ g.1.2 = .tc then dutiesOf g.2 else ∅
  unitless _ := False
  amount g _ _ := worth g.2
  payload g _ d := payOf m ρ g.1.1 d g.2
  amount_pos g _ _ _ := worth_pos g.2

instance ringRd_payload_storable (g : GSem nD τ sig) (r : ℕ) (d : Bool) :
    BI.Storable (upEmb : UEmb _ 𝕄) ((ringRd (F := F) m ρ).payload g r d) := by
  show BI.Storable upEmb (payOf m ρ g.1.1 d g.2)
  infer_instance

section Sched
variable (c : Dev nD) (k : DK)

theorem duties_bar : (ringRd (F := F) m ρ).duties (barCell c) 0 = Finset.univ := by dsimp only [ringRd]; exact if_pos ⟨rfl, rfl⟩
theorem duties_d : (ringRd (F := F) m ρ).duties (dCell c k) 0 = {false} := by
  dsimp only [ringRd, dutiesOf]; rw [if_pos ⟨rfl, rfl⟩, decode_dsem]; rfl
theorem duties_later (g : GSem nD τ sig) : ∀ r, 1 ≤ r → (ringRd (F := F) m ρ).duties g r = ∅ :=
  fun r hr => by dsimp only [ringRd]; exact if_neg fun h => by omega

theorem amount_bar (d : Bool) : (ringRd (F := F) m ρ).amount (barCell c) 0 d = 1 := rfl
theorem amount_d (d : Bool) : (ringRd (F := F) m ρ).amount (dCell c k) 0 d = N k.2.1 := by dsimp only [ringRd, worth]; rw [decode_dsem]

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_d : (ringRd (F := F) m ρ).expect (dCell c k) 0 = N k.2.1 := by
  unfold Schedule.expect Schedule.amountOf; rw [duties_d, Finset.sum_singleton, amount_d]

theorem payload_bar (d : Bool) : (ringRd (F := F) m ρ).payload (barCell c) 0 d = if d then landing (nxt c) else iprop(emp) := rfl
theorem payload_d (d : Bool) : (ringRd (F := F) m ρ).payload (dCell c k) 0 d = dPay m ρ c k := by dsimp only [ringRd, payOf]; rw [decode_dsem]

theorem rest_bar : bigSep ((ringRd (F := F) m ρ).duties (barCell c) 0 \ ∅) (fun d => (ringRd (F := F) m ρ).payload (barCell c) 0 d)
    = iprop(emp ∗ landing (nxt c)) := by
  rw [Finset.sdiff_empty, duties_bar, bigSep_univ_eq_bigSepL [false, true] (by decide) (by decide), bigSepL_cons_cons, bigSepL_singleton]
  rfl
theorem rest_d : bigSep ((ringRd (F := F) m ρ).duties (dCell c k) 0 \ ∅) (fun d => (ringRd (F := F) m ρ).payload (dCell c k) 0 d) = dPay m ρ c k := by
  rw [Finset.sdiff_empty, duties_d, bigSep_singleton, payload_d]

end Sched

/-! ## What each core owes; the levels -/

/-- The hops from `h` on, and those before it. -/
def from_ (h : ℕ) : Finset (Fin 31) := Finset.univ.filter fun j => h ≤ j.val
def upto (h : ℕ) : Finset (Fin 31) := Finset.univ.filter fun j => j.val < h

theorem mem_from {h : ℕ} {j : Fin 31} : j ∈ from_ h ↔ h ≤ j.val := by simp [from_]
theorem mem_upto {h : ℕ} {j : Fin 31} : j ∈ upto h ↔ j.val < h := by simp [upto]
theorem from_zero : from_ 0 = Finset.univ := by ext j; simp [mem_from]
theorem upto_zero : upto 0 = ∅ := by ext j; simp [mem_upto]
theorem upto_all : upto 31 = Finset.univ := by ext j; simp [mem_upto, j.isLt]
theorem from_all : from_ 31 = ∅ := by ext j; have := j.isLt; simp [mem_from]
theorem from_step (h : ℕ) (hh : h < 31) : from_ h = insert ⟨h, hh⟩ (from_ (h + 1)) := by
  ext j; simp only [mem_from, Finset.mem_insert, Fin.ext_iff]; omega
theorem not_mem_from (h : ℕ) (hh : h < 31) : (⟨h, hh⟩ : Fin 31) ∉ from_ (h + 1) := by rw [mem_from]; exact Nat.not_succ_le_self h
theorem upto_step (h : ℕ) (hh : h < 31) : upto (h + 1) = insert ⟨h, hh⟩ (upto h) := by
  ext j; simp only [mem_upto, Finset.mem_insert, Fin.ext_iff]; omega
theorem not_mem_upto (h : ℕ) (hh : h < 31) : (⟨h, hh⟩ : Fin 31) ∉ upto h := by rw [mem_upto]; exact Nat.lt_irrefl h

/-- What device `c` owes the device after it from hop `h` on; -/
def due (c : Dev nD) (s : Bool) (j : Fin 31) : CellTallies nD τ sig Unit := tallyAt (recvCell (nxt c) s j) () (N s)
def hopDue (j : Fin 31) (c : Dev nD) : CellTallies nD τ sig Unit := due c true j + due c false j
def owed (h : ℕ) (c : Dev nD) : CellTallies nD τ sig Unit := ∑ j ∈ from_ h, hopDue j c
/-- with its second signal, to the device after it; with its first signal too, to the device before it. -/
def O₁ (c : Dev nD) : CellTallies nD τ sig Unit := owed 0 c + tallyAt (barCell (nxt c)) () 1
def O₀ (c : Dev nD) : CellTallies nD τ sig Unit := O₁ c + tallyAt (barCell (prv c)) () 1

theorem owed_step (h : ℕ) (hh : h < 31) (c : Dev nD) : owed h c = owed (h + 1) c + due c true ⟨h, hh⟩ + due c false ⟨h, hh⟩ := by
  unfold owed; rw [from_step h hh, Finset.sum_insert (not_mem_from h hh), hopDue, add_comm, add_assoc]
theorem owed_end (c : Dev nD) : owed 31 c = 0 := by unfold owed; rw [from_all]; rfl

def L (g : GSem nD τ sig) : Finset Unit := if g.1.2 = .tc then {()} else ∅
/-- Barrier cells at 1, hop `h`'s receive cells at `2 + h`, the rest at 0. -/
def dlv (q : DmaSem sig) : ℕ := match decode q with
  | some (true, _, h) => 2 + h.val
  | _ => 0
def lv (g : GSem nD τ sig) (_ : Unit) : ℕ := match g.2 with
  | .reg _ => 1
  | .dma q => dlv q

theorem L_of_ne (g : GSem nD τ sig) (h : g.1.2 ≠ .tc) : L g = ∅ := if_neg h
theorem mem_L (c : Dev nD) (sm : SemLoc sig) : () ∈ L ((c : Thread nD τ), sm) := by unfold L; rw [if_pos rfl]; exact Finset.mem_singleton_self _
theorem dlv_dsem (k : DK) : dlv (dsem k) = if k.1 then 2 + k.2.2.val else 0 := by
  unfold dlv; rw [decode_dsem]; obtain ⟨r, s, h⟩ := k; cases r <;> rfl

theorem owed_pos {h : ℕ} {c : Dev nD} {g : GSem nD τ sig} {u : Unit} (hp : 0 < owed h c g u) :
    ∃ s j, h ≤ j.val ∧ g = recvCell (nxt c) s j := by
  obtain ⟨j, hj, hp⟩ := Pipeline.sum_pos_exists hp
  rcases Pipeline.add_pos_cases hp with hp | hp
  · exact ⟨true, j, mem_from.mp hj, (Pipeline.tallyAt_pos hp).1⟩
  · exact ⟨false, j, mem_from.mp hj, (Pipeline.tallyAt_pos hp).1⟩

theorem O₀_pos {c : Dev nD} {g : GSem nD τ sig} {u : Unit} (hp : 0 < O₀ c g u) :
    (∃ s j, g = recvCell (nxt c) s j) ∨ ∃ d, g = barCell d := by
  rcases Pipeline.add_pos_cases hp with hp | hp
  · rcases Pipeline.add_pos_cases hp with hp | hp
    · obtain ⟨s, j, -, h⟩ := owed_pos hp; exact .inl ⟨s, j, h⟩
    · exact .inr ⟨_, (Pipeline.tallyAt_pos hp).1⟩
  · exact .inr ⟨_, (Pipeline.tallyAt_pos hp).1⟩

/-- A wait on a cell below hop `h`'s level may be made while only hops from `h` on are owed. -/
theorem mayWait_owed (c : Dev nD) (sm : SemLoc sig) (h : ℕ) (hlt : lv ((c : Thread nD τ), sm) () < 2 + h) :
    (levAts L lv : sProp 𝕄) ⊢ MayWait (c : Thread nD τ) sm () (owed h c) :=
  Pipeline.mayWait_of_levAts (mem_L c sm) fun g u hp => by
    obtain ⟨s, j, hj, rfl⟩ := owed_pos hp
    refine ⟨mem_L _ _, lt_of_lt_of_le hlt ?_⟩
    show 2 + h ≤ dlv (dsem (true, s, j))
    rw [dlv_dsem]; show 2 + h ≤ 2 + j.val; omega

/-- The staging waits: on a cell of level 0, owing everything or nothing. -/
theorem mayWait_stage (c : Dev nD) (q : DmaSem sig) (hq : dlv q = 0) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (mem_L c _) fun g u hp => ?_
    have h0 : lv ((c : Thread nD τ), .dma q) () = 0 := hq
    rw [h0]
    rcases O₀_pos hp with ⟨s, j, rfl⟩ | ⟨d, rfl⟩
    · refine ⟨mem_L _ _, ?_⟩
      show 0 < dlv (dsem (true, s, j))
      rw [dlv_dsem]; show 0 < 2 + j.val; omega
    · exact ⟨mem_L _ _, Nat.one_pos⟩
  · rw [MayWait_zero]; iintro -; iempintro

end Cert.KernelIdeal.Protocol

end
-- ==== Proof.Slots.lean ====
/- A slot of a stream's buffer: loaded and stored through the buffer, and the buffer as its thirty-two slots. -/
module

public import proofs.«01_k».proof.Proof.Protocol

@[expose] public section

noncomputable section

namespace Cert.KernelIdeal.Protocol

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## A slot's elements -/

theorem slot_set (s : Bool) (j : Fin 32) : (slotM s j).view.set = (cM s).view.setOn (slotR j).toLoadRect.set :=
  ((View.set_reshape _ _).trans (View.set_slice _ _))
theorem slot_access (s : Bool) (j : Fin 32) : ((cM s).access (slotR j)).setOn Finset.univ = (slotM s j).view.set :=
  (View.set_reshape _ _).symm

/-- What a load of the slot through the buffer returns, dropping its unit axis, is what the slot holds. -/
theorem slot_read (s : Bool) (j : Fin 32) (f : (cM s).view.ty.Contents (Elt F)) :
    shapeCast S64x1024 ((cM s).view.readAt (Elt F) (slotR j).toLoadRect f) shapeCasts_S1x64x1024_S64x1024 = (slotM s j).view.read (Elt F) f := rfl

/-- A store to the slot through the buffer leaves it holding the stored value without the unit axis. -/
theorem slot_written (s : Bool) (j : Fin 32) (f : (cM s).view.ty.Contents (Elt F)) (w : Vec F S1x64x1024 .f32) :
    (slotM s j).view.read (Elt F) (((cM s).access (slotR j)).write (Elt F) f w Finset.univ)
      = shapeCast S64x1024 w shapeCasts_S1x64x1024_S64x1024 := by
  refine (slot_read s j _).symm.trans ?_
  exact congrArg (fun v => shapeCast S64x1024 v shapeCasts_S1x64x1024_S64x1024) (View.read_write_univ (v := (cM s).access (slotR j)) f w)

/-! ## The rules -/

theorem wp_loadSlot (c : Dev nD) (s : Bool) (j : Fin 32) (X : FVec F S64x1024 .f32) (k : Vec F S1x64x1024 .f32 → P F) (Q : PUnit → sProp 𝕄) :
    slot c s j X ⊢ iprop((∀ v, ⌜shapeCast S64x1024 v shapeCasts_S1x64x1024_S64x1024 = X⌝ -∗ slot c s j X -∗ wp frame (wpE (defs₀ (F := F)) 𝒱₀ c none) Set.univ (k v) Q)
      -∗ wp frame (wpE (defs₀ (F := F)) 𝒱₀ c none) Set.univ (loadSlot s j k) Q) := by
  unfold slot owns loadSlot
  iintro ⟨%f, %hf, H⟩ Hk
  iapply (wp_load 𝒱₀ (c : Thread nD τ) none Set.univ (m := cM s) (S := (slotM s j).view.set) (subset_of_eq (slot_set s j).symm)) $$ H
  iintro H
  iapply Hk
  · ipureintro; exact (slot_read s j f).trans hf
  · iexists f; isplitr
    · ipureintro; exact hf
    · iexact H

theorem wp_storeSlot (c : Dev nD) (s : Bool) (j : Fin 32) (X : FVec F S64x1024 .f32) (w : Vec F S1x64x1024 .f32) (k : P F) (Q : PUnit → sProp 𝕄) :
    slot c s j X ⊢ iprop((slot c s j (shapeCast S64x1024 w shapeCasts_S1x64x1024_S64x1024) -∗ wp frame (wpE (defs₀ (F := F)) 𝒱₀ c none) Set.univ k Q)
      -∗ wp frame (wpE (defs₀ (F := F)) 𝒱₀ c none) Set.univ (storeSlot s j w k) Q) := by
  unfold slot owns storeSlot
  iintro ⟨%f, %hf, H⟩ Hk
  iapply (wp_store 𝒱₀ (c : Thread nD τ) none Set.univ (m := cM s) (r := slotR j) (Mk := Finset.univ) (S := (slotM s j).view.set)
    (subset_of_eq (slot_access s j))) $$ H
  iintro H
  iapply Hk
  iexists _; isplitr
  swap; · iexact H
  ipureintro; exact slot_written s j f w

omit [FloatOps F] in
theorem slot_of_any (c : Dev nD) (s : Bool) (j : Fin 32) : slotAny (F := F) c s j ⊢ iprop(∃ X, slot c s j X) := by
  unfold slotAny slot owns
  iintro ⟨%f, H⟩
  iexists _; iexists f; isplitr
  swap; · iexact H
  ipureintro; rfl

/-! ## The buffer as its slots -/

theorem mem_slotR (j : Fin 32) (i : S32x64x1024.Idx) : i ∈ (slotR j).toLoadRect.set ↔ (i 0).val = j.val := by
  rw [LoadRect.mem_set]
  constructor
  · intro h; obtain ⟨t, ht, e⟩ := h 0
    have ht' : t < 1 := ht
    have e' : (i 0).val = j.val + 1 * t := e
    omega
  · intro h a
    have := (i a).isLt
    fin_cases a
    · exact ⟨0, Nat.one_pos, by show (i 0).val = j.val + 1 * 0; omega⟩
    · exact ⟨(i 1).val, (i 1).isLt, by show (i 1).val = 0 + 1 * (i 1).val; omega⟩
    · exact ⟨(i 2).val, (i 2).isLt, by show (i 2).val = 0 + 1 * (i 2).val; omega⟩

/-- The slot's elements, as elements of the buffer. -/
abbrev slotSet (s : Bool) (j : Fin 32) : Finset (cM s).view.ty.Idx := (slotM s j).view.set

theorem slots_disjoint (s : Bool) (j j' : Fin 32) (h : j ≠ j') : Disjoint (slotSet s j) (slotSet s j') := by
  unfold slotSet; rw [slot_set, slot_set]
  unfold View.setOn
  rw [Finset.disjoint_map, Finset.disjoint_left]
  intro i h1 h2
  exact h (Fin.ext (((mem_slotR j i).mp h1).symm.trans ((mem_slotR j' i).mp h2)))

theorem cM_set (s : Bool) : (cM s).view.set = Finset.univ := by cases s <;> exact View.set_whole _

theorem slots_cover (s : Bool) : Finset.univ.biUnion (slotSet s) = Finset.univ := by
  rw [← cM_set s]
  ext i
  constructor
  · intro h
    obtain ⟨j, -, hj⟩ := Finset.mem_biUnion.mp h
    unfold slotSet at hj; rw [slot_set] at hj
    exact Finset.map_subset_map.mpr (Finset.subset_univ _) hj
  · intro h
    obtain ⟨x, -, rfl⟩ := Finset.mem_map.mp h
    refine Finset.mem_biUnion.mpr ⟨⟨(x 0).val, (x 0).isLt⟩, Finset.mem_univ _, ?_⟩
    unfold slotSet; rw [slot_set]
    exact Finset.mem_map_of_mem _ ((mem_slotR ⟨(x 0).val, (x 0).isLt⟩ x).mpr rfl)

omit [FloatOps F] in
theorem slotAny_intro (c : Dev nD) (s : Bool) (j : Fin 32) (f : Buf (Elt F) ((slotM s j).view.loc (c : Thread nD τ))) :
    (((slotM s j).view.loc (c : Thread nD τ) ↦[(slotM s j).view.set]{fullShare} f) : sProp 𝕄) ⊢ slotAny c s j := by
  unfold slotAny
  iintro H; iexists f; iexact H

omit [FloatOps F] in
/-- A stream's buffer held whole is held slot by slot, -/
theorem buf_split (c : Dev nD) (s : Bool) :
    (iprop(∃ f : Buf (Elt F) ((cM s).view.loc (c : Thread nD τ)), (cM s).view.loc (c : Thread nD τ) ↦{fullShare} f) : sProp 𝕄)
      ⊢ bigSep Finset.univ fun j : Fin 32 => slotAny c s j := by
  iintro ⟨%f, H⟩
  ihave H' := (Entails.of_eq (Ring.pointsTo_blocks (ℓ := (cM s).view.loc (c : Thread nD τ)) (slotSet s) (slots_disjoint s) (slots_cover s) f)) $$ H
  have hm : (bigSep Finset.univ fun j : Fin 32 => ((cM s).view.loc (c : Thread nD τ) ↦[slotSet s j]{fullShare} f : sProp 𝕄))
      ⊢ bigSep Finset.univ fun j : Fin 32 => slotAny c s j :=
    bigSep_mono fun j _ => slotAny_intro c s j f
  iapply hm; iexact H'

omit [FloatOps F] in
/-- and back. -/
theorem buf_join (c : Dev nD) (s : Bool) (f₀ : Buf (Elt F) ((cM s).view.loc (c : Thread nD τ))) :
    (bigSep Finset.univ fun j : Fin 32 => slotAny (F := F) c s j)
      ⊢ (iprop(∃ f : Buf (Elt F) ((cM s).view.loc (c : Thread nD τ)), (cM s).view.loc (c : Thread nD τ) ↦{fullShare} f) : sProp 𝕄) :=
  Ring.pointsTo_blocks_join_exists (ℓ := (cM s).view.loc (c : Thread nD τ)) (slotSet s) (slots_disjoint s) (slots_cover s)
    f₀

end Cert.KernelIdeal.Protocol

end
-- ==== Proof.Moves.lean ====
/- The protocol's moves, each at a symbolic stream and hop: the copy to the next device and the wait for a transfer. -/
module

public import proofs.«01_k».proof.Proof.Slots

@[expose] public section

noncomputable section

namespace Cert.KernelIdeal.Protocol

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Every device's cells -/

/-- A device's cells by name: the barrier, then the transfer cells. -/
abbrev CK : Type := Unit ⊕ DK
def csem : CK → SemLoc sig
  | .inl _ => .reg barS
  | .inr k => .dma (dsem k)
abbrev kcell (ck : Dev nD × CK) : GSem nD τ sig := ((ck.1 : Thread nD τ), csem ck.2)

/-- Every cell's invariant, and that every cell has reached its round. -/
def records (K : Dev nD × CK → ℕ) : sProp 𝕄 :=
  iprop((bigSep Finset.univ fun ck : Dev nD × CK => cellInv ER (ringRd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (ringRd m ρ) (K ck) (kcell ck) := by
  have h : (bigSep Finset.univ fun ck : Dev nD × CK => (cellInv ER (ringRd m ρ) (K ck) (kcell ck) : sProp 𝕄)) ⊢ cellInv ER (ringRd m ρ) (K ck) (kcell ck) :=
    bigSep_elim (Finset.mem_univ ck)
  unfold records
  iintro ⟨H, -⟩
  iapply h; iexact H
theorem reached_at (K : Dev nD × CK → ℕ) (ck : Dev nD × CK) : records m ρ K ⊢ reached ER (kcell ck) 0 := by
  have h : (bigSep Finset.univ fun ck : Dev nD × CK => (reached ER (kcell ck) 0 : sProp 𝕄)) ⊢ reached ER (kcell ck) 0 := bigSep_elim (Finset.mem_univ ck)
  unfold records
  iintro ⟨-, H⟩
  iapply h; iexact H

variable (K : Dev nD × CK → ℕ)

/-! ## The copy -/

/-- Device `c`'s copy of hop `h` on one stream: its slot goes to its send cell, the filled slot of the device after it to
    that device's receive cell, and one due is paid. -/
theorem wp_copy (c n : Dev nD) (hn : n = nxt c) (s : Bool) (h : Fin 31) (O : CellTallies nD τ sig Unit) (W : Waits sig Unit)
    {hsc : (slotM s h.succ : Memref sig (Dev.tc n : Thread nD τ).2.kind .vmem S64x1024 .f32).view.ref.isScScratch = false}
    {hsrc : (slotM s h.castSucc).view.WordExact} {hdst : (slotM s h.succ).view.WordExact}
    {hsem : DmaTarget.Typed .vmem (.dma (rcvS s h)) (.remote (Dev.tc n : Thread nD τ) (slotM s h.succ) (.dma (sndS s h)) hsc)}
    (k : P F) (Q : PUnit → sProp 𝕄) :
    iprop(records m ρ K ∗ slot c s h.castSucc (half s (acc m ρ h.castSucc c)) ∗ slotAny (nxt c) s h.succ
        ∗ owes (c : Thread nD τ) (O + due c s h) W
        ∗ dutyTok ER (sendCell c s h) 0 false ∗ dutyTok ER (recvCell (nxt c) s h) 0 false)
      ⊢ iprop(((cred (tallyAt (sendCell c s h) () (N s)) ∗ owes (c : Thread nD τ) O W) -∗ wp frame (wpE (defs₀ (F := F)) 𝒱₀ (c : Thread nD τ) none) Set.univ k Q)
          -∗ wp frame (wpE (defs₀ (F := F)) 𝒱₀ (c : Thread nD τ) none) Set.univ
              (.op (.enqueueDma (slotM s h.castSucc) (.remote (Dev.tc n : Thread nD τ) (slotM s h.succ) (.dma (sndS s h)) hsc) (.dma (rcvS s h)) hsrc hdst hsem) fun _ => k) Q) := by
  subst hn
  unfold slot slotAny owns
  iintro ⟨#HR, ⟨%f, %hf, Hs⟩, ⟨%fd, Hd⟩, HO, Ht1, Ht2⟩ Hk
  iapply (Rounds.wp_send_pointsTo 𝒱₀ ER (ringRd m ρ) (c : Thread nD τ) none (κ₁ := K (c, .inr (false, s, h))) (κ₂ := K (nxt c, .inr (true, s, h)))
    (r₁ := 0) (r₂ := 0) (d₁ := false) (d₂ := false) (q := fullShare) (fs := f) (fd := fd)
    (by rw [duties_d]; exact Finset.mem_singleton_self _)
    (by rw [duties_d]; exact Finset.mem_singleton_self _)
    () () (N s) rfl (amount_d m ρ c (false, s, h) false) (amount_d m ρ (nxt c) (true, s, h) false) O rfl (W := W)
    (by
      rw [payload_d]
      unfold dPay slot owns
      iintro H; iexists f; isplitr
      · ipureintro; exact hf
      · iexact H)
    (by
      rw [payload_d]
      unfold dPay slot owns
      iintro H; iexists _; isplitr
      swap; · iexact H
      ipureintro; rw [View.read_write_univ, prv_nxt]; exact hf)) $$ [Hs Hd HO Ht1 Ht2]
  · isplitr; · iapply (inv_at m ρ K (c, .inr (false, s, h))); iexact HR
    isplitr; · iapply (inv_at m ρ K (nxt c, .inr (true, s, h))); iexact HR
    isplitl [Hs]; · iexact Hs
    isplitl [Hd]; · iexact Hd
    isplitl [HO]; · iexact HO
    isplitl [Ht1]; · iexact Ht1
    isplitr; · iapply (reached_at m ρ K (c, .inr (false, s, h))); iexact HR
    isplitl [Ht2]; · iexact Ht2
    iapply (reached_at m ρ K (nxt c, .inr (true, s, h))); iexact HR
  iexact Hk

/-! ## The wait for a transfer -/

/-- A wait on one of device `c`'s transfer cells, owing the hops from `n` on: the cell hands over what it holds and closes. -/
theorem wp_arrival (c : Dev nD) (k : DK) (n : ℕ) (hlt : dlv (dsem k) < 2 + n) (j j' : Fin 32) (W : Waits sig Unit)
    {h1 : (slotM k.2.1 j).view.WordExact} {h2 : (slotM k.2.1 j').view.WordExact} (kt : P F) (Q : PUnit → sProp 𝕄) :
    iprop(records m ρ K ∗ levAts L lv ∗ atPos ER (dCell c k) 0 ∅ 0 ∗ cred (tallyAt (dCell c k) () (N k.2.1)) ∗ owes (c : Thread nD τ) (owed n c) W)
      ⊢ iprop((∀ W', (owes (c : Thread nD τ) (owed n c) W' ∗ dPay m ρ c k ∗ semVal (dCell c k) 0) -∗ wp frame (wpE (defs₀ (F := F)) 𝒱₀ (c : Thread nD τ) none) Set.univ kt Q)
          -∗ wp frame (wpE (defs₀ (F := F)) 𝒱₀ (c : Thread nD τ) none) Set.univ
              (.op (.waitDma2 (dsem k) (slotM k.2.1 j) (slotM k.2.1 j') h1 h2) fun _ => kt) Q) := by
  iintro ⟨#HR, #Hlev, Hat, Hc, HO⟩ Hk
  iapply (Rounds.wp_wait_rest_token 𝒱₀ ER (ringRd m ρ) (c : Thread nD τ) none (κ := K (c, .inr k))
      (wpE_waitDma2_eq 𝒱₀ (c : Thread nD τ) none Set.univ) (Set.mem_univ _) () (O := owed n c) (W := W) (R := 0) (m := 0) (T := ∅)
      (by rw [Nat.zero_add]; exact (expect_d m ρ c k).symm)) $$ [Hat Hc HO]
  · isplitr; · iapply (inv_at m ρ K (c, .inr k)); iexact HR
    isplitl [Hc]; · iexact Hc
    isplitl [HO]; · iexact HO
    isplitr; · iapply (mayWait_owed (F := F) c (.dma (dsem k)) n hlt); iexact Hlev
    iexact Hat
  iintro ⟨HO, Hat, -, Hpay⟩
  ihave Hp := (Entails.of_eq (rest_d m ρ c k)) $$ Hpay
  imod (Rounds.cell_close ER (ringRd m ρ) (Set.mem_univ (K (c, .inr k))) (fun h => h) (R := 0 + 1) (duties_later m ρ (dCell c k))) $$ [Hat] with Hz
  · isplitr; · iapply (inv_at m ρ K (c, .inr k)); iexact HR
    iexact Hat
  iapply Hk
  isplitl [HO]; · iexact HO
  isplitl [Hp]; · iexact Hp
  iexact Hz

end Cert.KernelIdeal.Protocol

end
-- ==== Proof.Hops.lean ====
/- The hops around the ring: one rule for a symbolic hop, and the chain of them by induction. -/
module

public import proofs.«01_k».proof.Proof.Moves

@[expose] public section

noncomputable section

namespace Cert.KernelIdeal.Protocol

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## What a device holds between hops -/

/-- The staged operands. -/
def ops (c : Dev nD) : sProp 𝕄 :=
  iprop((((c : Thread nD τ).loc cc0_stg0_0) ↦{fullShare} astg m ρ c) ∗ (((c : Thread nD τ).loc cc0_stg1_0) ↦{fullShare} bstg m ρ c))

/-- One stream of one hop: before it, between the copy and the arrival, after the arrival, after the send wait. -/
def strRes (c : Dev nD) (s : Bool) (h : Fin 31) : sProp 𝕄 :=
  iprop(atPos ER (recvCell c s h) 0 ∅ 0 ∗ cred (tallyAt (recvCell c s h) () (N s)) ∗ atPos ER (sendCell c s h) 0 ∅ 0
    ∗ dutyTok ER (sendCell c s h) 0 false ∗ dutyTok ER (recvCell (nxt c) s h) 0 false ∗ slotAny (nxt c) s h.succ)
def strWait (c : Dev nD) (s : Bool) (h : Fin 31) : sProp 𝕄 :=
  iprop(atPos ER (recvCell c s h) 0 ∅ 0 ∗ cred (tallyAt (recvCell c s h) () (N s)) ∗ atPos ER (sendCell c s h) 0 ∅ 0 ∗ cred (tallyAt (sendCell c s h) () (N s)))
def strDone (c : Dev nD) (s : Bool) (h : Fin 31) : sProp 𝕄 :=
  iprop(semVal (recvCell c s h) 0 ∗ atPos ER (sendCell c s h) 0 ∅ 0 ∗ cred (tallyAt (sendCell c s h) () (N s)))
def strFin (c : Dev nD) (s : Bool) (h : Fin 31) : sProp 𝕄 :=
  iprop(semVal (recvCell c s h) 0 ∗ semVal (sendCell c s h) 0 ∗ slotAny (F := F) c s h.castSucc)

def hopRes (c : Dev nD) (h : Fin 31) : sProp 𝕄 := iprop(strRes c false h ∗ strRes c true h)
def hopDone (c : Dev nD) (h : Fin 31) : sProp 𝕄 := iprop(strDone (F := F) c false h ∗ strDone c true h)
def hopFin (c : Dev nD) (h : Fin 31) : sProp 𝕄 := iprop(strFin (F := F) c false h ∗ strFin c true h)

/-- What slot `j` of a stream holds once the device has added its product; and what the copy into it brought. -/
abbrev summed (c : Dev nD) (s : Bool) (j : Fin 32) : sProp 𝕄 := slot c s j (half s (acc m ρ j c))
abbrev arrived (c : Dev nD) (s : Bool) (h : Fin 31) : sProp 𝕄 := slot c s h.succ (half s (acc m ρ h.castSucc (prv c)))

/-- The device before hop `h`: its operands, slot `h` of both streams summed, the hops from `h` on still to pay. -/
def before (c : Dev nD) (h : ℕ) (hh : h < 32) : sProp 𝕄 :=
  iprop(ops m ρ c ∗ summed m ρ c false ⟨h, hh⟩ ∗ summed m ρ c true ⟨h, hh⟩ ∗ (∃ W, owes (c : Thread nD τ) (owed h c) W)
    ∗ bigSep (from_ h) (hopRes (F := F) c) ∗ bigSep (upto h) (hopDone (F := F) c))

/-! ## One hop -/

theorem bigSep_from (h : ℕ) (hh : h < 31) (Φ : Fin 31 → sProp 𝕄) : bigSep (from_ h) Φ = iprop(Φ ⟨h, hh⟩ ∗ bigSep (from_ (h + 1)) Φ) := by
  rw [from_step h hh, bigSep_insert (not_mem_from h hh)]; rfl
theorem bigSep_upto (h : ℕ) (hh : h < 31) (Φ : Fin 31 → sProp 𝕄) : bigSep (upto (h + 1)) Φ = iprop(Φ ⟨h, hh⟩ ∗ bigSep (upto h) Φ) := by
  rw [upto_step h hh, bigSep_insert (not_mem_upto h hh)]; rfl

/-- Both copies of hop `h`. -/
theorem wp_starts (c : Dev nD) (h : Fin 31) (W : Waits sig Unit) (k : P F) (Q : PUnit → sProp 𝕄) :
    iprop(records m ρ K ∗ summed m ρ c false h.castSucc ∗ summed m ρ c true h.castSucc ∗ owes (c : Thread nD τ) (owed h.val c) W ∗ hopRes c h)
      ⊢ iprop(((owes (c : Thread nD τ) (owed (h.val + 1) c) W ∗ strWait c false h ∗ strWait c true h)
          -∗ wp frame (wpE (defs₀ (F := F)) 𝒱₀ (c : Thread nD τ) none) Set.univ k Q)
          -∗ wp frame (wpE (defs₀ (F := F)) 𝒱₀ (c : Thread nD τ) none) Set.univ (starts c h k) Q) := by
  unfold starts sendStep hopRes strRes strWait summed
  rw [owed_step h.val h.isLt c]
  iintro ⟨#HR, H0, H1, HO, ⟨Hv0, Hc0, Hs0, Ht0, Hu0, Hd0⟩, ⟨Hv1, Hc1, Hs1, Ht1, Hu1, Hd1⟩⟩ Hk
  iapply (wp_copy m ρ K c (rightOf c) (rightOf_eq c) false h (owed (h.val + 1) c + due c true h) W) $$ [H0 Hd0 HO Ht0 Hu0]
  · isplitr; · iexact HR
    isplitl [H0]; · iexact H0
    isplitl [Hd0]; · iexact Hd0
    isplitl [HO]; · iexact HO
    isplitl [Ht0]; · iexact Ht0
    iexact Hu0
  iintro ⟨Hx0, HO⟩
  iapply (wp_copy m ρ K c (rightOf c) (rightOf_eq c) true h (owed (h.val + 1) c) W) $$ [H1 Hd1 HO Ht1 Hu1]
  · isplitr; · iexact HR
    isplitl [H1]; · iexact H1
    isplitl [Hd1]; · iexact Hd1
    isplitl [HO]; · iexact HO
    isplitl [Ht1]; · iexact Ht1
    iexact Hu1
  iintro ⟨Hx1, HO⟩
  iapply Hk
  isplitl [HO]; · iexact HO
  isplitl [Hv0 Hc0 Hs0 Hx0]
  · isplitl [Hv0]; · iexact Hv0
    isplitl [Hc0]; · iexact Hc0
    isplitl [Hs0]; · iexact Hs0
    iexact Hx0
  · isplitl [Hv1]; · iexact Hv1
    isplitl [Hc1]; · iexact Hc1
    isplitl [Hs1]; · iexact Hs1
    iexact Hx1

/-- The operands of hop `h`, loaded. -/
theorem wp_operands (c : Dev nD) (h : Fin 31) (k : Vec F S64x1024 .f32 → Vec F S1024x2048 .f32 → P F) (Q : PUnit → sProp 𝕄) :
    ops m ρ c ⊢ iprop((ops m ρ c -∗ wp frame (wpE (defs₀ (F := F)) 𝒱₀ (c : Thread nD τ) none) Set.univ (k (rowsAt m ρ c h) (ball m ρ c)) Q)
          -∗ wp frame (wpE (defs₀ (F := F)) 𝒱₀ (c : Thread nD τ) none) Set.univ (operands c h k) Q) := by
  unfold operands ops
  iintro ⟨Ha, Hb⟩ Hk
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply Hk
  isplitl [Ha] <;> iassumption

/-- The arrival of hop `h` on one stream. -/
theorem wp_arrive (c : Dev nD) (s : Bool) (h : Fin 31) (W : Waits sig Unit) (k : P F) (Q : PUnit → sProp 𝕄) :
    iprop(records m ρ K ∗ levAts L lv ∗ strWait c s h ∗ owes (c : Thread nD τ) (owed (h.val + 1) c) W)
      ⊢ iprop((∀ W', (owes (c : Thread nD τ) (owed (h.val + 1) c) W' ∗ arrived m ρ c s h ∗ strDone c s h)
          -∗ wp frame (wpE (defs₀ (F := F)) 𝒱₀ (c : Thread nD τ) none) Set.univ k Q)
          -∗ wp frame (wpE (defs₀ (F := F)) 𝒱₀ (c : Thread nD τ) none) Set.univ (recvStep s h k) Q) := by
  unfold strWait recvStep
  iintro ⟨#HR, #Hlev, ⟨Hv, Hc, Hs, Hx⟩, HO⟩ Hk
  iapply (wp_arrival m ρ K c (true, s, h) (h.val + 1) (by rw [dlv_dsem]; show 2 + h.val < 2 + (h.val + 1); omega) h.castSucc h.succ W) $$ [Hv Hc HO]
  · isplitr; · iexact HR
    isplitr; · iexact Hlev
    isplitl [Hv]; · iexact Hv
    isplitl [Hc]; · iexact Hc
    iexact HO
  iintro %W' ⟨HO, Hp, Hz⟩
  iapply Hk
  isplitl [HO]; · iexact HO
  isplitl [Hp]; · unfold dPay; iexact Hp
  unfold strDone
  isplitl [Hz]; · iexact Hz
  isplitl [Hs]; · iexact Hs
  iexact Hx

/-- The stored sums, without their unit axis. -/
theorem sum_left (c : Dev nD) (h : Fin 31) (v : Vec F S1x64x1024 .f32)
    (hv : shapeCast S64x1024 v shapeCasts_S1x64x1024_S64x1024 = half false (acc m ρ h.castSucc (prv c))) :
    shapeCast S64x1024 (k0_pay6 (rowsAt m ρ c h) (ball m ρ c) v) shapeCasts_S1x64x1024_S64x1024 = half false (acc m ρ h.succ c) := by
  rw [acc_succ, half_addf, ← hv]
  exact shapeCast_shapeCast _ _ _
theorem sum_right (c : Dev nD) (h : Fin 31) (v : Vec F S1x64x1024 .f32)
    (hv : shapeCast S64x1024 v shapeCasts_S1x64x1024_S64x1024 = half true (acc m ρ h.castSucc (prv c))) :
    shapeCast S64x1024 (k0_pay7 (k0_pay5 (rowsAt m ρ c h) (ball m ρ c)) v) shapeCasts_S1x64x1024_S64x1024 = half true (acc m ρ h.succ c) := by
  rw [acc_succ, half_addf, ← hv]
  exact shapeCast_shapeCast _ _ _

/-- A stored value that is the sum, on each stream: the two loads of the slot and the store. -/
theorem wp_addL (c : Dev nD) (h : Fin 31) (k : P F) (Q : PUnit → sProp 𝕄) :
    arrived m ρ c false h ⊢ iprop((summed m ρ c false h.succ -∗ wp frame (wpE (defs₀ (F := F)) 𝒱₀ (c : Thread nD τ) none) Set.univ k Q)
      -∗ wp frame (wpE (defs₀ (F := F)) 𝒱₀ (c : Thread nD τ) none) Set.univ
        (loadSlot false h.succ fun v => loadSlot false h.succ fun _ => storeSlot false h.succ (k0_pay6 (rowsAt m ρ c h) (ball m ρ c) v) k) Q) := by
  iintro H Hk
  iapply (wp_loadSlot c false h.succ _ (fun v => loadSlot false h.succ fun _ => storeSlot false h.succ (k0_pay6 (rowsAt m ρ c h) (ball m ρ c) v) k)) $$ H
  iintro %v %hv H
  iapply (wp_loadSlot c false h.succ _ (fun _ => storeSlot false h.succ (k0_pay6 (rowsAt m ρ c h) (ball m ρ c) v) k)) $$ H
  iintro %v' %hv' H
  iapply (wp_storeSlot c false h.succ _ (k0_pay6 (rowsAt m ρ c h) (ball m ρ c) v) k) $$ H
  rw [sum_left m ρ c h v hv]
  iexact Hk
theorem wp_addR (c : Dev nD) (h : Fin 31) (k : P F) (Q : PUnit → sProp 𝕄) :
    arrived m ρ c true h ⊢ iprop((summed m ρ c true h.succ -∗ wp frame (wpE (defs₀ (F := F)) 𝒱₀ (c : Thread nD τ) none) Set.univ k Q)
      -∗ wp frame (wpE (defs₀ (F := F)) 𝒱₀ (c : Thread nD τ) none) Set.univ
        (loadSlot true h.succ fun v => loadSlot true h.succ fun _ => storeSlot true h.succ (k0_pay7 (k0_pay5 (rowsAt m ρ c h) (ball m ρ c)) v) k) Q) := by
  iintro H Hk
  iapply (wp_loadSlot c true h.succ _ (fun v => loadSlot true h.succ fun _ => storeSlot true h.succ (k0_pay7 (k0_pay5 (rowsAt m ρ c h) (ball m ρ c)) v) k)) $$ H
  iintro %v %hv H
  iapply (wp_loadSlot c true h.succ _ (fun _ => storeSlot true h.succ (k0_pay7 (k0_pay5 (rowsAt m ρ c h) (ball m ρ c)) v) k)) $$ H
  iintro %v' %hv' H
  iapply (wp_storeSlot c true h.succ _ (k0_pay7 (k0_pay5 (rowsAt m ρ c h) (ball m ρ c)) v) k) $$ H
  rw [sum_right m ρ c h v hv]
  iexact Hk

/-- One hop: from before it to before the next. -/
theorem wp_hop (c : Dev nD) (h : ℕ) (hh : h < 31) (k : P F) (Q : PUnit → sProp 𝕄) :
    iprop(records m ρ K ∗ levAts L lv ∗ before m ρ c h (by omega))
      ⊢ iprop((before m ρ c (h + 1) (by omega) -∗ wp frame (wpE (defs₀ (F := F)) 𝒱₀ (c : Thread nD τ) none) Set.univ k Q)
          -∗ wp frame (wpE (defs₀ (F := F)) 𝒱₀ (c : Thread nD τ) none) Set.univ (hop c ⟨h, hh⟩ k) Q) := by
  unfold before hop
  rw [bigSep_from h hh, bigSep_upto h hh]
  iintro ⟨#HR, #Hlev, Hops, H0, H1, ⟨%W, HO⟩, ⟨Hres, Hfrom⟩, Hupto⟩ Hk
  iapply (wp_starts m ρ K c ⟨h, hh⟩ W) $$ [H0 H1 HO Hres]
  · isplitr; · iexact HR
    isplitl [H0]; · iexact H0
    isplitl [H1]; · iexact H1
    isplitl [HO]; · iexact HO
    iexact Hres
  iintro ⟨HO, Hw0, Hw1⟩
  iapply (wp_operands m ρ c ⟨h, hh⟩) $$ Hops
  iintro Hops
  unfold accL
  iapply (wp_arrive m ρ K c false ⟨h, hh⟩ W) $$ [Hw0 HO]
  · isplitr; · iexact HR
    isplitr; · iexact Hlev
    isplitl [Hw0]; · iexact Hw0
    iexact HO
  iintro %W1 ⟨HO, Ha, Hd0⟩
  iapply (wp_addL m ρ c ⟨h, hh⟩) $$ Ha
  iintro H0
  unfold accR
  iapply (wp_arrive m ρ K c true ⟨h, hh⟩ W1) $$ [Hw1 HO]
  · isplitr; · iexact HR
    isplitr; · iexact Hlev
    isplitl [Hw1]; · iexact Hw1
    iexact HO
  iintro %W2 ⟨HO, Ha, Hd1⟩
  iapply (wp_addR m ρ c ⟨h, hh⟩) $$ Ha
  iintro H1
  iapply Hk
  isplitl [Hops]; · iexact Hops
  isplitl [H0]; · iexact H0
  isplitl [H1]; · iexact H1
  isplitl [HO]; · iexists W2; iexact HO
  isplitl [Hfrom]; · iexact Hfrom
  isplitr [Hupto]
  · unfold hopDone
    isplitl [Hd0] <;> iassumption
  iexact Hupto

/-- The chain of hops, by induction on its length. -/
theorem wp_hops (c : Dev nD) (n h : ℕ) (hn : h + n ≤ 30) (k : P F) (Q : PUnit → sProp 𝕄) :
    iprop(records m ρ K ∗ levAts L lv ∗ before m ρ c h (by omega))
      ⊢ iprop((before m ρ c (h + n) (by omega) -∗ wp frame (wpE (defs₀ (F := F)) 𝒱₀ (c : Thread nD τ) none) Set.univ k Q)
          -∗ wp frame (wpE (defs₀ (F := F)) 𝒱₀ (c : Thread nD τ) none) Set.univ (hops c n h hn k) Q) := by
  induction n generalizing h with
  | zero =>
    unfold hops
    iintro ⟨-, -, H⟩ Hk
    iapply Hk; iexact H
  | succ n ih =>
    unfold hops
    iintro ⟨#HR, #Hlev, H⟩ Hk
    iapply (wp_hop m ρ K c h _) $$ [H]
    · isplitr; · iexact HR
      isplitr; · iexact Hlev
      iexact H
    iintro H
    iapply (ih (h + 1) _) $$ [H]
    · isplitr; · iexact HR
      isplitr; · iexact Hlev
      iexact H
    rw [show before m ρ c (h + 1 + n) (by omega) = before m ρ c (h + (n + 1)) (by omega) from by congr 1; omega]
    iexact Hk

/-! ## The send waits -/

/-- The send of hop `h` on one stream. -/
theorem wp_sent (c : Dev nD) (s : Bool) (h : Fin 31) (W : Waits sig Unit) (k : P F) (Q : PUnit → sProp 𝕄) :
    iprop(records m ρ K ∗ levAts L lv ∗ strDone c s h ∗ owes (c : Thread nD τ) (owed 31 c) W)
      ⊢ iprop((∀ W', (owes (c : Thread nD τ) (owed 31 c) W' ∗ strFin c s h)
          -∗ wp frame (wpE (defs₀ (F := F)) 𝒱₀ (c : Thread nD τ) none) Set.univ k Q)
          -∗ wp frame (wpE (defs₀ (F := F)) 𝒱₀ (c : Thread nD τ) none) Set.univ (sentStep s h k) Q) := by
  unfold strDone sentStep
  iintro ⟨#HR, #Hlev, ⟨Hz, Hs, Hx⟩, HO⟩ Hk
  iapply (wp_arrival m ρ K c (false, s, h) 31 (by rw [dlv_dsem]; exact Nat.succ_pos _) h.succ h.castSucc W) $$ [Hs Hx HO]
  · isplitr; · iexact HR
    isplitr; · iexact Hlev
    isplitl [Hs]; · iexact Hs
    isplitl [Hx]; · iexact Hx
    iexact HO
  iintro %W' ⟨HO, Hp, Hz'⟩
  iapply Hk
  isplitl [HO]; · iexact HO
  unfold strFin
  isplitl [Hz]; · iexact Hz
  isplitl [Hz']; · iexact Hz'
  iapply (slot_any c s h.castSucc); unfold dPay; iexact Hp

/-- All of them, by induction. -/
theorem wp_sents (c : Dev nD) (n h : ℕ) (hn : h + n = 31) (W : Waits sig Unit) (k : P F) (Q : PUnit → sProp 𝕄) :
    iprop(records m ρ K ∗ levAts L lv ∗ bigSep (from_ h) (hopDone (F := F) c) ∗ bigSep (upto h) (hopFin (F := F) c) ∗ owes (c : Thread nD τ) (owed 31 c) W)
      ⊢ iprop((∀ W', (bigSep Finset.univ (hopFin (F := F) c) ∗ owes (c : Thread nD τ) (owed 31 c) W') -∗ wp frame (wpE (defs₀ (F := F)) 𝒱₀ (c : Thread nD τ) none) Set.univ k Q)
          -∗ wp frame (wpE (defs₀ (F := F)) 𝒱₀ (c : Thread nD τ) none) Set.univ (sents n h (by omega) k) Q) := by
  induction n generalizing h W with
  | zero =>
    obtain rfl : h = 31 := by omega
    unfold sents
    rw [upto_all]
    iintro ⟨-, -, -, H, HO⟩ Hk
    iapply Hk
    isplitl [H] <;> iassumption
  | succ n ih =>
    unfold sents
    rw [bigSep_from h (by omega)]
    iintro ⟨#HR, #Hlev, ⟨Hd, Hfrom⟩, Hupto, HO⟩ Hk
    unfold hopDone
    icases Hd with ⟨Hd0, Hd1⟩
    iapply (wp_sent m ρ K c false ⟨h, _⟩ W) $$ [Hd0 HO]
    · isplitr; · iexact HR
      isplitr; · iexact Hlev
      isplitl [Hd0]; · iexact Hd0
      iexact HO
    iintro %W1 ⟨HO, Hf0⟩
    iapply (wp_sent m ρ K c true ⟨h, _⟩ W1) $$ [Hd1 HO]
    · isplitr; · iexact HR
      isplitr; · iexact Hlev
      isplitl [Hd1]; · iexact Hd1
      iexact HO
    iintro %W2 ⟨HO, Hf1⟩
    iapply (ih (h + 1) (by omega) W2) $$ [Hfrom Hupto Hf0 Hf1 HO]
    · isplitr; · iexact HR
      isplitr; · iexact Hlev
      isplitl [Hfrom]; · unfold hopDone; iexact Hfrom
      isplitr [HO]
      · rw [bigSep_upto h (by omega)]
        isplitl [Hf0 Hf1]
        · unfold hopFin; isplitl [Hf0] <;> iassumption
        iexact Hupto
      iexact HO
    iexact Hk

end Cert.KernelIdeal.Protocol

end
-- ==== Proof.Output.lean ====
/- The two stores of the result, one per half of the columns, leave the whole sum. -/
module

public import proofs.«01_k».proof.Proof.Hops

@[expose] public section

noncomputable section

namespace Cert.KernelIdeal.Protocol

open Cert.KernelIdeal Cert.KernelIdeal.Gen Cert.KernelIdeal.Steps
open Idealize.ShloMosaic

variable {F : FTy → Type} [FloatOps F]

abbrev viewL : View sig .tc .vmem S64x1024 .f32 := (oM : Memref sig .tc .vmem S64x2048 .f32).access outL
abbrev viewR : View sig .tc .vmem S64x1024 .f32 := (oM : Memref sig .tc .vmem S64x2048 .f32).access outR

theorem ix64_ext {i j : S64x2048.Idx} (h0 : (i 0).val = (j 0).val) (h1 : (i 1).val = (j 1).val) : i = j := by
  funext a; fin_cases a
  · exact Fin.ext h0
  · exact Fin.ext h1

/-- A half read at the index a view places it at is the whole there. -/
theorem half_left (Q : FVec F S64x2048 .f32) (x : S64x1024.Idx) : half false Q x = Q (viewL.emb x) := by
  refine congrArg Q (ix64_ext ?_ ?_)
  · show 0 + (x 0).val = 0 + 1 * (x 0).val; omega
  · show 0 + (x 1).val = 0 + 1 * (x 1).val; omega
theorem half_right (Q : FVec F S64x2048 .f32) (x : S64x1024.Idx) : half true Q x = Q (viewR.emb x) := by
  refine congrArg Q (ix64_ext ?_ ?_)
  · show 0 + (x 0).val = 0 + 1 * (x 0).val; omega
  · show 1024 + (x 1).val = 1024 + 1 * (x 1).val; omega

theorem right_of (i : S64x2048.Idx) (h : 1024 ≤ (i 1).val) : ∃ x, viewR.emb x = i := by
  have h1 : (i 1).val < 2048 := (i 1).isLt
  refine ⟨fun a => match a with | ⟨0, _⟩ => ⟨(i 0).val, (i 0).isLt⟩ | ⟨1, _⟩ => ⟨(i 1).val - 1024, by show _ < 1024; omega⟩, ix64_ext ?_ ?_⟩
  · show 0 + 1 * (i 0).val = (i 0).val; omega
  · show 1024 + 1 * ((i 1).val - 1024) = (i 1).val; omega
theorem left_of (i : S64x2048.Idx) (h : (i 1).val < 1024) : ∃ x, viewL.emb x = i := by
  refine ⟨fun a => match a with | ⟨0, _⟩ => ⟨(i 0).val, (i 0).isLt⟩ | ⟨1, _⟩ => ⟨(i 1).val, h⟩, ix64_ext ?_ ?_⟩
  · show 0 + 1 * (i 0).val = (i 0).val; omega
  · show 0 + 1 * (i 1).val = (i 1).val; omega

theorem not_right (i : S64x2048.Idx) (h : (i 1).val < 1024) : i ∉ viewR.setOn Finset.univ := by
  intro hm
  obtain ⟨x, -, hx⟩ := Finset.mem_map.mp hm
  have : 1024 + 1 * (x 1).val = (i 1).val := congrArg (fun j : S64x2048.Idx => (j 1).val) hx
  omega

/-- The result's two stores over any contents. -/
theorem stored (f : (cc0_stg2_0 : Ref sig .tc).ty.Contents (Elt F)) (Q : FVec F S64x2048 .f32) :
    viewR.write (Elt F) (viewL.write (Elt F) f (half false Q) Finset.univ) (half true Q) Finset.univ = Q := by
  funext i
  by_cases h : (i 1).val < 1024
  · refine (View.write_of_not_mem _ _ _ (not_right i h)).trans ?_
    obtain ⟨x, rfl⟩ := left_of i h
    refine (View.write_emb_of_mem _ _ (Finset.mem_univ x)).trans ?_
    exact half_left Q x
  · obtain ⟨x, rfl⟩ := right_of i (by omega)
    refine (View.write_emb_of_mem _ _ (Finset.mem_univ x)).trans ?_
    exact half_right Q x

end Cert.KernelIdeal.Protocol

end
-- ==== Proof.Body.lean ====
/- The body, once, at a symbolic device: entry handshake, first product, hops, result, send waits. -/
module

public import proofs.«01_k».proof.Proof.Output

@[expose] public section

noncomputable section

namespace Cert.KernelIdeal.Protocol

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The token device `c` pays a transfer duty with: its own send cells', the receive cells' of the device after it. -/
def payTok (c : Dev nD) : DK → sProp 𝕄
  | (true, s, h) => dutyTok ER (recvCell (nxt c) s h) 0 false
  | (false, s, h) => dutyTok ER (sendCell c s h) 0 false

/-- A device's positions and the tokens of the duties it pays. -/
def own (c : Dev nD) : sProp 𝕄 :=
  iprop(atPos ER (barCell c) 0 ∅ 0 ∗ (bigSep Finset.univ fun k : DK => atPos ER (dCell c k) 0 ∅ 0)
    ∗ dutyTok ER (barCell (nxt c)) 0 false ∗ dutyTok ER (barCell (prv c)) 0 true ∗ bigSep Finset.univ (payTok (F := F) c))

def hopCred (c : Dev nD) (h : Fin 31) : sProp 𝕄 :=
  iprop(cred (tallyAt (recvCell c true h) () (N true)) ∗ cred (tallyAt (recvCell c false h) () (N false)))

def start (c : Dev nD) : sProp 𝕄 :=
  iprop((∃ K, records m ρ K ∗ own c) ∗ cred (tallyAt (barCell c) () 2) ∗ (bigSep Finset.univ (hopCred (F := F) c)) ∗ levAts L lv)

/-- A stream's buffer, whole, at any contents. -/
def bufAny (c : Dev nD) (s : Bool) : sProp 𝕄 :=
  iprop(∃ f : Buf (Elt F) ((cM s).view.loc (c : Thread nD τ)), (cM s).view.loc (c : Thread nD τ) ↦{fullShare} f)

def Φ₀ (c : Dev nD) : sProp 𝕄 := iprop(start m ρ c ∗ bufAny c false ∗ bufAny c true)
def Φ₁ (c : Dev nD) : sProp 𝕄 :=
  iprop(bigSep Finset.univ (hopFin (F := F) c) ∗ slotAny (F := F) c false (31 : Fin 32) ∗ slotAny c true (31 : Fin 32) ∗ semVal (barCell c) 0)

/-- The result as staged on device `c`. -/
def outAt (c : Dev nD) : (cc0_stg2_0 : Ref sig .tc).ty.Contents (Elt F) := acc m ρ (31 : Fin 32) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => astg m ρ c
    | ⟨1, _⟩ => bstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

variable (K : Dev nD × CK → ℕ)

/-! ## The parts of the body -/

/-- The entry handshake: the landing slots of `c` go to the device before it, those of the device after it come. -/
theorem wp_entry (c : Dev nD) (W : Waits sig Unit) (k : P F) (Q : PUnit → sProp 𝕄) :
    iprop(records m ρ K ∗ levAts L lv ∗ atPos ER (barCell c) 0 ∅ 0 ∗ cred (tallyAt (barCell c) () 2)
        ∗ dutyTok ER (barCell (nxt c)) 0 false ∗ dutyTok ER (barCell (prv c)) 0 true ∗ landing c ∗ owes (c : Thread nD τ) (O₀ c) W)
      ⊢ iprop((∀ W', (owes (c : Thread nD τ) (owed 0 c) W' ∗ landing (nxt c) ∗ semVal (barCell c) 0)
          -∗ wp frame (wpE (defs₀ (F := F)) 𝒱₀ (c : Thread nD τ) none) Set.univ k Q)
          -∗ wp frame (wpE (defs₀ (F := F)) 𝒱₀ (c : Thread nD τ) none) Set.univ (entry c k) Q) := by
  unfold entry
  simp only [semSignalWord, semWaitWord, Prog.lift, Prog.bind_op, Prog.bind_ret, Prog.pure_eq_ret]
  rw [leftOf_eq, rightOf_eq]
  iintro ⟨#HR, #Hlev, Hat, Hc, Htn, Htp, Hland, HO⟩ Hk
  -- the first signal, to the device before: its duty `true`, with the landing slots
  iapply (Rounds.wp_signal 𝒱₀ ER (ringRd m ρ) (c : Thread nD τ) none (dst := (prv c : Thread nD τ)) (κ := K (prv c, .inl ()))
      (d := true) (by rw [duties_bar]; exact Finset.mem_univ _) ((amount_bar m ρ (prv c) true).trans (by decide)) () (O₁ c) rfl)
    $$ [HO Htp Hland]
  · isplitr; · iapply (inv_at m ρ K (prv c, .inl ())); iexact HR
    isplitl [HO]; · iexact HO
    isplitl [Htp]; · iexact Htp
    isplitl [Hland]
    · rw [payload_bar, if_pos rfl, nxt_prv]; iexact Hland
    · iapply (reached_at m ρ K (prv c, .inl ())); iexact HR
  iintro HO
  -- the second, to the device after: its duty `false`, with nothing
  iapply (Rounds.wp_signal 𝒱₀ ER (ringRd m ρ) (c : Thread nD τ) none (dst := (nxt c : Thread nD τ)) (κ := K (nxt c, .inl ()))
      (d := false) (by rw [duties_bar]; exact Finset.mem_univ _) ((amount_bar m ρ (nxt c) false).trans (by decide)) () (owed 0 c) rfl)
    $$ [HO Htn]
  · isplitr; · iapply (inv_at m ρ K (nxt c, .inl ())); iexact HR
    isplitl [HO]; · iexact HO
    isplitl [Htn]; · iexact Htn
    isplitr
    · rw [payload_bar, if_neg Bool.false_ne_true]; iempintro
    · iapply (reached_at m ρ K (nxt c, .inl ())); iexact HR
  iintro HO
  -- the wait for both
  iapply (Rounds.wp_wait_rest_token 𝒱₀ ER (ringRd m ρ) (c : Thread nD τ) none (κ := K (c, .inl ()))
      (wpE_semWait_eq 𝒱₀ (c : Thread nD τ) none Set.univ) (Set.mem_univ _) () (O := owed 0 c) (W := W) (R := 0) (m := 0) (T := ∅)
      (by rw [expect_bar]; decide)) $$ [Hc HO Hat]
  · isplitr; · iapply (inv_at m ρ K (c, .inl ())); iexact HR
    isplitl [Hc]; · iexact Hc
    isplitl [HO]; · iexact HO
    isplitr; · iapply (mayWait_owed (F := F) c (.reg barS) 0 (by show 1 < 2 + 0; decide)); iexact Hlev
    iexact Hat
  iintro ⟨HO, Hat, -, Hpay⟩
  ihave Hp := (Entails.of_eq (rest_bar m ρ c)) $$ Hpay
  icases Hp with ⟨-, Hp⟩
  imod (Rounds.cell_close ER (ringRd m ρ) (Set.mem_univ (K (c, .inl ()))) (fun h => h) (R := 0 + 1) (duties_later m ρ (barCell c))) $$ [Hat] with Hz
  · isplitr; · iapply (inv_at m ρ K (c, .inl ())); iexact HR
    iexact Hat
  rw [show (Prog.ret PUnit.unit).bind (fun _ => k) = k from rfl]
  iapply Hk
  isplitl [HO]; · iexact HO
  isplitl [Hp] <;> iassumption

/-- The first product's halves, stored. -/
theorem first_left (c : Dev nD) :
    shapeCast S64x1024 (k0_pay2 (rows0 m ρ c) (ball m ρ c)) shapeCasts_S1x64x1024_S64x1024 = half false (acc m ρ 0 c) := by
  rw [acc_zero]; exact shapeCast_shapeCast _ _ _
theorem first_right (c : Dev nD) :
    shapeCast S64x1024 (k0_pay4 (k0_pay3 (rows0 m ρ c) (ball m ρ c))) shapeCasts_S1x64x1024_S64x1024 = half true (acc m ρ 0 c) := by
  rw [acc_zero]; exact shapeCast_shapeCast _ _ _

theorem wp_first (c : Dev nD) (k : P F) (Q : PUnit → sProp 𝕄) :
    iprop(ops m ρ c ∗ slotAny c false 0 ∗ slotAny c true 0)
      ⊢ iprop(((ops m ρ c ∗ summed m ρ c false 0 ∗ summed m ρ c true 0) -∗ wp frame (wpE (defs₀ (F := F)) 𝒱₀ (c : Thread nD τ) none) Set.univ k Q)
          -∗ wp frame (wpE (defs₀ (F := F)) 𝒱₀ (c : Thread nD τ) none) Set.univ (first c k) Q) := by
  unfold first ops
  iintro ⟨⟨Ha, Hb⟩, H0, H1⟩ Hk
  ihave H0' := (slot_of_any (F := F) c false 0) $$ H0
  ihave H1' := (slot_of_any (F := F) c true 0) $$ H1
  icases H0' with ⟨%X0, H0⟩
  icases H1' with ⟨%X1, H1⟩
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (wp_loadSlot c false 0 X0) $$ H0
  iintro %v %hv H0
  iapply (wp_storeSlot c false 0 X0 (k0_pay2 (rows0 m ρ c) (ball m ρ c))) $$ H0
  rw [first_left m ρ c]
  iintro H0
  iapply (wp_loadSlot c true 0 X1) $$ H1
  iintro %v' %hv' H1
  iapply (wp_storeSlot c true 0 X1 (k0_pay4 (k0_pay3 (rows0 m ρ c) (ball m ρ c)))) $$ H1
  rw [first_right m ρ c]
  iintro H1
  iapply Hk
  isplitl [Ha Hb]
  · isplitl [Ha] <;> iassumption
  isplitl [H0] <;> iassumption

/-- The last sums. -/
theorem last_left (c : Dev nD) (v : Vec F S1x64x1024 .f32)
    (hv : shapeCast S64x1024 v shapeCasts_S1x64x1024_S64x1024 = half false (acc m ρ (30 : Fin 31).castSucc (prv c))) :
    k0_pay106 (rowsAt m ρ c 30) (ball m ρ c) v = half false (outAt m ρ c) := by
  unfold outAt
  rw [show (31 : Fin 32) = (30 : Fin 31).succ from rfl, acc_succ, half_addf, ← hv]; rfl
theorem last_right (c : Dev nD) (v : Vec F S1x64x1024 .f32)
    (hv : shapeCast S64x1024 v shapeCasts_S1x64x1024_S64x1024 = half true (acc m ρ (30 : Fin 31).castSucc (prv c))) :
    k0_pay107 (k0_pay105 (rowsAt m ρ c 30) (ball m ρ c)) v = half true (outAt m ρ c) := by
  unfold outAt
  rw [show (31 : Fin 32) = (30 : Fin 31).succ from rfl, acc_succ, half_addf, ← hv]; rfl

/-- The last hop: the result written. -/
theorem wp_lastHop (c : Dev nD) (g : (cc0_stg2_0 : Ref sig .tc).ty.Contents (Elt F)) (k : P F) (Q : PUnit → sProp 𝕄) :
    iprop(records m ρ K ∗ levAts L lv ∗ before m ρ c 30 (by omega) ∗ (((c : Thread nD τ).loc cc0_stg2_0) ↦{fullShare} g))
      ⊢ iprop((∀ W, (ops m ρ c ∗ slotAny c false 31 ∗ slotAny c true 31 ∗ owes (c : Thread nD τ) (owed 31 c) W ∗ bigSep Finset.univ (hopDone (F := F) c)
            ∗ (((c : Thread nD τ).loc cc0_stg2_0) ↦{fullShare} outAt m ρ c))
          -∗ wp frame (wpE (defs₀ (F := F)) 𝒱₀ (c : Thread nD τ) none) Set.univ k Q)
          -∗ wp frame (wpE (defs₀ (F := F)) 𝒱₀ (c : Thread nD τ) none) Set.univ (lastHop c k) Q) := by
  unfold before lastHop
  rw [bigSep_from 30 (by decide), ← upto_all, bigSep_upto 30 (by decide)]
  iintro ⟨#HR, #Hlev, ⟨Hops, H0, H1, ⟨%W, HO⟩, ⟨Hres, -⟩, Hupto⟩, Hout⟩ Hk
  iapply (wp_starts m ρ K c 30 W) $$ [H0 H1 HO Hres]
  · isplitr; · iexact HR
    isplitl [H0]; · iexact H0
    isplitl [H1]; · iexact H1
    isplitl [HO]; · iexact HO
    iexact Hres
  iintro ⟨HO, Hw0, Hw1⟩
  iapply (wp_operands m ρ c 30) $$ Hops
  iintro Hops
  iapply (wp_arrive m ρ K c false 30 W) $$ [Hw0 HO]
  · isplitr; · iexact HR
    isplitr; · iexact Hlev
    isplitl [Hw0]; · iexact Hw0
    iexact HO
  iintro %W1 ⟨HO, Ha, Hd0⟩
  iapply (wp_loadSlot c false (30 : Fin 31).succ _) $$ Ha
  iintro %v %hv H0
  rw [last_left m ρ c v hv]
  iapply (wp_load 𝒱₀ (c : Thread nD τ) none Set.univ (m := oM) (Finset.subset_univ _)) $$ Hout; iintro Hout
  iapply (wp_store 𝒱₀ (c : Thread nD τ) none Set.univ (m := oM) (r := outL) (Mk := Finset.univ) (Finset.subset_univ _)) $$ Hout; iintro Hout
  iapply (wp_arrive m ρ K c true 30 W1) $$ [Hw1 HO]
  · isplitr; · iexact HR
    isplitr; · iexact Hlev
    isplitl [Hw1]; · iexact Hw1
    iexact HO
  iintro %W2 ⟨HO, Ha, Hd1⟩
  iapply (wp_loadSlot c true (30 : Fin 31).succ _) $$ Ha
  iintro %v' %hv' H1
  rw [last_right m ρ c v' hv']
  iapply (wp_load 𝒱₀ (c : Thread nD τ) none Set.univ (m := oM) (Finset.subset_univ _)) $$ Hout; iintro Hout
  iapply (wp_store 𝒱₀ (c : Thread nD τ) none Set.univ (m := oM) (r := outR) (Mk := Finset.univ) (Finset.subset_univ _)) $$ Hout; iintro Hout
  rw [stored]
  iapply Hk
  isplitl [Hops]; · iexact Hops
  isplitl [H0]; · iapply (slot_any c false 31); iexact H0
  isplitl [H1]; · iapply (slot_any c true 31); iexact H1
  isplitl [HO]; · iexact HO
  isplitr [Hout]
  · isplitr [Hupto]
    · unfold hopDone
      isplitl [Hd0]; · iexact Hd0
      iexact Hd1
    iexact Hupto
  iexact Hout

/-! ## Regrouping what a device starts from -/

section Regroup

omit [FloatOps F] in
theorem bigSep_bool {I : Type} [Fintype I] [DecidableEq I] (Ψ : Bool × I → sProp 𝕄) :
    bigSep Finset.univ Ψ = iprop((bigSep Finset.univ fun i => Ψ (false, i)) ∗ bigSep Finset.univ fun i => Ψ (true, i)) := by
  rw [bigSep_univ_prod, bigSep_univ_eq_bigSepL [false, true] (by decide) (by decide)]; rfl

omit [FloatOps F] in
/-- Over the transfer cells, hop by hop. -/
theorem bigSep_cells (Φ : DK → sProp 𝕄) : bigSep Finset.univ Φ = bigSep Finset.univ fun h : Fin 31 =>
    iprop((Φ (false, false, h) ∗ Φ (false, true, h)) ∗ Φ (true, false, h) ∗ Φ (true, true, h)) := by
  rw [bigSep_bool, bigSep_bool, bigSep_bool]
  simp only [bigSep_sep']

omit [FloatOps F] in
theorem bigSep_head {n : ℕ} (Ψ : Fin (n + 1) → sProp 𝕄) : bigSep Finset.univ Ψ = iprop(Ψ 0 ∗ bigSep Finset.univ fun i : Fin n => Ψ i.succ) := by
  rw [Fin.univ_succ, Finset.cons_eq_insert, bigSep_insert (by simp [Fin.succ_ne_zero]), bigSep_map]; rfl
omit [FloatOps F] in
theorem bigSep_last {n : ℕ} (Ψ : Fin (n + 1) → sProp 𝕄) : bigSep Finset.univ Ψ = iprop(Ψ (Fin.last n) ∗ bigSep Finset.univ fun i : Fin n => Ψ i.castSucc) := by
  rw [Fin.univ_castSuccEmb, Finset.cons_eq_insert, bigSep_insert (by simp [Fin.castSucc_ne_last]), bigSep_map]; rfl

end Regroup

/-- Both buffers slot by slot: slot 0 of each, and the landing slots. -/
theorem slots_in (c : Dev nD) : iprop(bufAny (F := F) c false ∗ bufAny c true) ⊢ iprop(slotAny (F := F) c false 0 ∗ slotAny c true 0 ∗ landing (F := F) c) := by
  unfold bufAny landing
  rw [bigSep_sep']
  iintro ⟨H0, H1⟩
  ihave H0' := (buf_split (F := F) c false) $$ H0
  ihave H1' := (buf_split (F := F) c true) $$ H1
  ihave H0'' := (Entails.of_eq (bigSep_head fun j : Fin 32 => slotAny (F := F) c false j)) $$ H0'
  ihave H1'' := (Entails.of_eq (bigSep_head fun j : Fin 32 => slotAny (F := F) c true j)) $$ H1'
  icases H0'' with ⟨Ha, Hb⟩
  icases H1'' with ⟨Hc, Hd⟩
  isplitl [Ha]; · iexact Ha
  isplitl [Hc]; · iexact Hc
  isplitl [Hb] <;> iassumption

/-- What the hops of a device take, hop by hop. -/
theorem hop_in (c : Dev nD) :
    iprop((bigSep Finset.univ fun k : DK => atPos ER (dCell c k) 0 ∅ 0) ∗ bigSep Finset.univ (payTok (F := F) c)
        ∗ bigSep Finset.univ (hopCred (F := F) c) ∗ landing (nxt c))
      ⊢ bigSep Finset.univ (hopRes (F := F) c) := by
  unfold landing
  rw [bigSep_cells, bigSep_cells, ← bigSep_sep', ← bigSep_sep', ← bigSep_sep']
  refine bigSep_mono fun h _ => ?_
  unfold hopCred hopRes strRes payTok
  show (_ : sProp 𝕄) ⊢ _
  iintro ⟨⟨⟨Hs0, Hs1⟩, Hr0, Hr1⟩, ⟨⟨Ht0, Ht1⟩, Hu0, Hu1⟩, ⟨Hc1, Hc0⟩, Hl0, Hl1⟩
  isplitl [Hs0 Hr0 Ht0 Hu0 Hc0 Hl0]
  · isplitl [Hr0]; · iexact Hr0
    isplitl [Hc0]; · iexact Hc0
    isplitl [Hs0]; · iexact Hs0
    isplitl [Ht0]; · iexact Ht0
    isplitl [Hu0]; · iexact Hu0
    iexact Hl0
  · isplitl [Hr1]; · iexact Hr1
    isplitl [Hc1]; · iexact Hc1
    isplitl [Hs1]; · iexact Hs1
    isplitl [Ht1]; · iexact Ht1
    isplitl [Hu1]; · iexact Hu1
    iexact Hl1

/-! ## The body's obligation -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPost (c : Dev nD) : sProp 𝕄 :=
  iprop(Φ₁ (F := F) c ∗ (dats m ρ 0 c).owesAt () t0_0.succ ∗ stg c cc0_stg0_0 (astg m ρ c) ∗ stg c cc0_stg1_0 (bstg m ρ c) ∗ stg c cc0_stg2_0 (outAt m ρ c))

/-- The body, from what the launch deals and the staged operands. -/
theorem wp_body (c : Dev nD) (W : Waits sig Unit) (g : (cc0_stg2_0 : Ref sig .tc).ty.Contents (Elt F)) (Q : PUnit → sProp 𝕄) :
    iprop(Φ₀ m ρ c ∗ owes (c : Thread nD τ) (O₀ c) W ∗ ops m ρ c ∗ (((c : Thread nD τ).loc cc0_stg2_0) ↦{fullShare} g))
      ⊢ iprop((∀ W', (Φ₁ (F := F) c ∗ owes (c : Thread nD τ) 0 W' ∗ ops m ρ c ∗ (((c : Thread nD τ).loc cc0_stg2_0) ↦{fullShare} outAt m ρ c)) -∗ Q ⟨⟩)
          -∗ wp frame (wpE (defs₀ (F := F)) 𝒱₀ (c : Thread nD τ) none) Set.univ Steps.body Q) := by
  unfold Φ₀ start own Steps.body
  simp only [wp_deviceId]
  iintro ⟨⟨⟨⟨%K, #HR, HatB, Hat, HtN, HtP, Hpay⟩, HcB, Hcr, #Hlev⟩, Hbuf0, Hbuf1⟩, HO, Hops, Hout⟩ Hk
  ihave Hs := (slots_in (F := F) c) $$ [Hbuf0 Hbuf1]
  · isplitl [Hbuf0] <;> iassumption
  icases Hs with ⟨Hx0, Hx1, Hland⟩
  iapply (wp_entry m ρ K c W) $$ [HatB HcB HtN HtP Hland HO]
  · isplitr; · iexact HR
    isplitr; · iexact Hlev
    isplitl [HatB]; · iexact HatB
    isplitl [HcB]; · iexact HcB
    isplitl [HtN]; · iexact HtN
    isplitl [HtP]; · iexact HtP
    isplitl [Hland]; · iexact Hland
    iexact HO
  iintro %W1 ⟨HO, Hland, HzB⟩
  ihave Hres := (hop_in (F := F) c) $$ [Hat Hpay Hcr Hland]
  · isplitl [Hat]; · iexact Hat
    isplitl [Hpay]; · iexact Hpay
    isplitl [Hcr] <;> iassumption
  iapply (wp_first m ρ c) $$ [Hops Hx0 Hx1]
  · isplitl [Hops]; · iexact Hops
    isplitl [Hx0] <;> iassumption
  iintro ⟨Hops, H0, H1⟩
  iapply (wp_hops m ρ K c 30 0 _) $$ [Hops H0 H1 HO Hres]
  · isplitr; · iexact HR
    isplitr; · iexact Hlev
    unfold before
    rw [from_zero, upto_zero, bigSep_empty]
    isplitl [Hops]; · iexact Hops
    isplitl [H0]; · iexact H0
    isplitl [H1]; · iexact H1
    isplitl [HO]; · iexists W1; iexact HO
    isplitl [Hres]; · iexact Hres
    iempintro
  iintro Hb
  iapply (wp_lastHop m ρ K c g) $$ [Hb Hout]
  · isplitr; · iexact HR
    isplitr; · iexact Hlev
    isplitl [Hb] <;> iassumption
  iintro %W2 ⟨Hops, Hx0, Hx1, HO, Hdone, Hout⟩
  iapply (wp_sents m ρ K c 31 0 (Nat.zero_add 31) W2) $$ [Hdone HO]
  · isplitr; · iexact HR
    isplitr; · iexact Hlev
    rw [from_zero, upto_zero, bigSep_empty]
    isplitl [Hdone]; · iexact Hdone
    isplitr; · iempintro
    iexact HO
  iintro %W3 ⟨Hfin, HO⟩
  rw [wp_ret, owed_end]; imodintro
  iapply Hk
  unfold Φ₁
  isplitl [Hfin Hx0 Hx1 HzB]
  · isplitl [Hfin]; · iexact Hfin
    isplitl [Hx0]; · iexact Hx0
    isplitl [Hx1] <;> iassumption
  isplitl [HO]; · iexact HO
  isplitl [Hops] <;> iassumption

theorem fetch_in (w : Fin 3) (hw : w ≠ 2) : (cfg0.win w).fetch t0_0 = true := by fin_cases w <;> first | rfl | exact absurd rfl hw

omit [FloatOps F] in
/-- To own a whole array at `X` is to hold its points-to at contents that are `X`. -/
theorem owns_stg (d : Dev nD) (r : Ref sig .tc) (X : r.ty.Contents (Elt F)) :
    (owns (d : Thread nD τ) (Memref.whole r) fullShare X : sProp 𝕄) = stg d r X := by
  simp only [stg, owns, View.set_whole, View.read_whole, Memref.view_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 100000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre m ρ c ⊢ wp frame (wpE (defs₀ (F := F)) 𝒱₀ (c : Thread nD τ) none) Set.univ
    (cc0_body (F := F) aM (Memref.isWhole_whole _) bM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  rw [body_eq]
  unfold bodyPre Dat.owesAt Pipeline.owesWithin
  iintro ⟨HΦ, ⟨%W, %hW, HO⟩, ⟨%d0, %g0, %hg0, Ha⟩, ⟨%d1, %g1, %hg1, Hb⟩, ⟨%d2, %g2, %hg2, Hout⟩⟩
  have h0 : g0 = astg m ρ c := by rw [hg0]; unfold Dat.before; rw [if_pos (fetch_in 0 (by decide))]; rfl
  have h1 : g1 = bstg m ρ c := by rw [hg1]; unfold Dat.before; rw [if_pos (fetch_in 1 (by decide))]; rfl
  subst h0 h1
  rw [show (dats m ρ 0 c).owed t0_0.castSucc = O₀ c from rfl]
  iapply (wp_body m ρ c W g2) $$ [HΦ HO Ha Hb Hout]
  · isplitl [HΦ]; · iexact HΦ
    isplitl [HO]; · iexact HO
    isplitl [Ha Hb]
    · unfold ops; isplitl [Ha] <;> iassumption
    iexact Hout
  unfold ops
  iintro %W' ⟨HΦ, HO, ⟨Ha, Hb⟩, Hout⟩
  unfold bodyPost Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hout

end Cert.KernelIdeal.Protocol

end
-- ==== Proof.Setup.lean ====
/- Before the body: cells and duty tokens minted, invariants allocated, tokens and credit dealt around the ring. -/
module

public import proofs.«01_k».proof.Proof.Body

@[expose] public section

noncomputable section

namespace Cert.KernelIdeal.Protocol

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Minting -/

/-- The kernel's own semaphores. -/
def osem : DK → SemLoc sig := fun k => .dma (dsem k)

set_option maxRecDepth 100000 in
theorem ownSemFacts : Pipeline.OwnSemFacts cfg0.spec osem where
  isScoped := by rintro ⟨r, s, h⟩; revert r s h; decide
  inj := fun a b h => dsem_injective (SemLoc.dma.inj h)
  disj := by
    intro k w s h
    have h1 : (dsem k).val = ((cfg0.spec w).sem s).val := congrArg Fin.val (SemLoc.dma.inj h)
    have h2 : ((cfg0.spec w).sem s).val < 3 := by clear h h1; revert w s; decide
    rw [dsem_val] at h1
    have h3 : 3 ≤ dbase k.1 k.2.1 := by cases k.1 <;> cases k.2.1 <;> decide
    omega

theorem csem_injective : Function.Injective csem
  | .inl (), .inl (), _ => rfl
  | .inl (), .inr _, h => nomatch h
  | .inr _, .inl (), h => nomatch h
  | .inr a, .inr b, h => congrArg Sum.inr (dsem_injective (SemLoc.dma.inj h))
theorem kcell_injective : Function.Injective (kcell : Dev nD × CK → GSem nD τ sig) := by
  rintro ⟨c, k⟩ ⟨c', k'⟩ h
  obtain rfl : c = c' := congrArg (fun g : GSem nD τ sig => g.1.1) h
  obtain rfl : k = k' := csem_injective (congrArg Prod.snd h)
  rfl

def ringCells : Finset (GSem nD τ sig) := Finset.univ.map ⟨kcell, kcell_injective⟩

/-- A device's own cells' duties as minted: its barrier's two, its transfer cells' one each. -/
abbrev TK : Type := Bool ⊕ DK
def duty : TK → CK × Bool
  | .inl d => (.inl (), d)
  | .inr k => (.inr k, false)
theorem duty_injective : Function.Injective duty
  | .inl _, .inl _, h => congrArg Sum.inl (congrArg Prod.snd h)
  | .inl _, .inr _, h => nomatch congrArg Prod.fst h
  | .inr _, .inl _, h => nomatch congrArg Prod.fst h
  | .inr _, .inr _, h => congrArg Sum.inr (Sum.inr.inj (congrArg Prod.fst h))
abbrev tokOf (cj : Dev nD × TK) : GSem nD τ sig × ℕ × Bool := (kcell (cj.1, (duty cj.2).1), 0, (duty cj.2).2)
theorem tokOf_injective : Function.Injective tokOf := by
  rintro ⟨c, j⟩ ⟨c', j'⟩ h
  have h1 := kcell_injective (congrArg Prod.fst h)
  obtain rfl : c = c' := congrArg Prod.fst h1
  obtain rfl : j = j' := duty_injective (Prod.ext (congrArg Prod.snd h1) (congrArg (fun x => x.2.2) h))
  rfl
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duty tokens of device `c`'s own cells, and those of the duties it pays. -/
def toks (c : Dev nD) : sProp 𝕄 :=
  iprop((dutyTok ER (barCell c) 0 false ∗ dutyTok ER (barCell c) 0 true) ∗ bigSep Finset.univ fun k : DK => dutyTok ER (dCell c k) 0 false)
def payToks (c : Dev nD) : sProp 𝕄 :=
  iprop(dutyTok ER (barCell (nxt c)) 0 false ∗ dutyTok ER (barCell (prv c)) 0 true ∗ bigSep Finset.univ (payTok (F := F) c))

/-- What the launch deals device `c`, and what the global step makes of it. -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, records m ρ K ∗ own c)

theorem bigSep_two (Φ : Bool → sProp 𝕄) : bigSep Finset.univ Φ = iprop(Φ false ∗ Φ true) :=
  bigSep_univ_eq_bigSepL [false, true] (by decide) (by decide) Φ
theorem bigSep_one (Φ : Unit → sProp 𝕄) : bigSep Finset.univ Φ = Φ () := bigSep_univ_eq_bigSepL [()] (by decide) (by decide) Φ
theorem bigSep_CK (Φ : CK → sProp 𝕄) : bigSep Finset.univ Φ = iprop(Φ (.inl ()) ∗ bigSep Finset.univ fun k => Φ (.inr k)) := by
  rw [bigSep_univ_sum, bigSep_one]; rfl
theorem bigSep_TK (Φ : TK → sProp 𝕄) : bigSep Finset.univ Φ = iprop((Φ (.inl false) ∗ Φ (.inl true)) ∗ bigSep Finset.univ fun k => Φ (.inr k)) := by
  rw [bigSep_univ_sum, bigSep_two]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TK]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating the invariants -/

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK]
  unfold Pipeline.ownSems0
  iintro ⟨HD, HB⟩
  isplitl [HB]; · iexact HB
  iexact HD

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- Each token to the device that pays it: the send tokens stay, every other one moves by one device. -/
theorem toks_around : (bigSep Finset.univ fun c : Dev nD => (toks c : sProp 𝕄)) ⊢ bigSep Finset.univ fun c : Dev nD => payToks c := by
  have hk (c : Dev nD) : (bigSep Finset.univ (payTok (F := F) c) : sProp 𝕄) =
      iprop((bigSep Finset.univ fun i : Bool × Fin 31 => dutyTok ER (dCell c (false, i)) 0 false)
        ∗ bigSep Finset.univ fun i : Bool × Fin 31 => dutyTok ER (dCell (nxt c) (true, i)) 0 false) := by
    rw [bigSep_bool]; rfl
  unfold toks payToks
  simp only [hk, bigSep_bool (fun k : DK => (dutyTok ER (dCell _ k) 0 false : sProp 𝕄))]
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun i : Bool × Fin 31 => dutyTok ER (dCell c (true, i)) 0 false : sProp 𝕄))]
  iintro ⟨⟨H1, H2⟩, H3, H4⟩
  isplitl [H1]; · iexact H1
  isplitl [H2]; · iexact H2
  isplitl [H3]; · iexact H3
  iexact H4

/-- A device's positions and tokens. -/
theorem own_intro (K : Dev nD × CK → ℕ) (c : Dev nD) :
    iprop(records m ρ K ∗ (bigSep Finset.univ fun k : CK => atPos ER (kcell (c, k)) 0 ∅ 0) ∗ payToks c) ⊢ G' m ρ c := by
  unfold payToks G' own
  rw [bigSep_CK]
  iintro ⟨#HR, ⟨Hb, Hd⟩, H1, H2, H3⟩
  iexists K
  isplitr; · iexact HR
  isplitl [Hb]; · iexact Hb
  isplitl [Hd]; · iexact Hd
  isplitl [H1]; · iexact H1
  isplitl [H2] <;> iassumption

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (ringRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => own_intro m ρ K c)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem cred_due (s : Bool) (j : Fin 31) (c : Dev nD) :
    (Pipeline.launchCred (fun d => due d s j) c : sProp 𝕄) ⊢ cred (tallyAt (recvCell c s j) () (N s)) :=
  Pipeline.launchCred_tallyAt (.dma (dsem (true, s, j))) nxt prv nxt_prv prv_nxt () (N s) c
theorem cred_bar_nxt (c : Dev nD) : (Pipeline.launchCred (fun d => tallyAt (barCell (nxt d)) () 1) c : sProp 𝕄) ⊢ cred (tallyAt (barCell c) () 1) :=
  Pipeline.launchCred_tallyAt (.reg barS) nxt prv nxt_prv prv_nxt () 1 c
theorem cred_bar_prv (c : Dev nD) : (Pipeline.launchCred (fun d => tallyAt (barCell (prv d)) () 1) c : sProp 𝕄) ⊢ cred (tallyAt (barCell c) () 1) :=
  Pipeline.launchCred_tallyAt (.reg barS) prv nxt prv_nxt nxt_prv () 1 c

theorem creds (c : Dev nD) :
    (Pipeline.launchCred O₀ c : sProp 𝕄) ⊢ iprop(cred (tallyAt (barCell c) () 2) ∗ bigSep Finset.univ (hopCred (F := F) c)) := by
  have h1 : (O₀ : Dev nD → CellTallies nD τ sig Unit) = fun d => O₁ d + tallyAt (barCell (prv d)) () 1 := rfl
  have h2 : (O₁ : Dev nD → CellTallies nD τ sig Unit) = fun d => owed 0 d + tallyAt (barCell (nxt d)) () 1 := rfl
  have h3 : (owed 0 : Dev nD → CellTallies nD τ sig Unit) = fun d => ∑ j ∈ from_ 0, hopDue j d := rfl
  have h4 (j : Fin 31) : (Pipeline.launchCred (hopDue j) c : sProp 𝕄) ⊢ hopCred c j := by
    rw [show (hopDue j : Dev nD → CellTallies nD τ sig Unit) = fun d => due d true j + due d false j from rfl, Pipeline.launchCred_add]
    exact BI.sep_mono (cred_due true j c) (cred_due false j c)
  have h5 : (bigSep Finset.univ fun j : Fin 31 => (Pipeline.launchCred (hopDue j) c : sProp 𝕄)) ⊢ bigSep Finset.univ (hopCred (F := F) c) :=
    bigSep_mono fun j _ => h4 j
  rw [h1, Pipeline.launchCred_add, h2, Pipeline.launchCred_add, h3, Pipeline.launchCred_sum, from_zero]
  iintro ⟨⟨Hh, Hn⟩, Hp⟩
  ihave Hn' := (cred_bar_nxt (F := F) c) $$ Hn
  ihave Hp' := (cred_bar_prv (F := F) c) $$ Hp
  isplitl [Hn' Hp']
  · rw [show (tallyAt (barCell c) () 2 : CellTallies nD τ sig Unit) = tallyAt (barCell c) () 1 + tallyAt (barCell c) () 1 from (tallyAt_add _ _ 1 1).symm]
    iapply (cred_add _ _).2
    isplitl [Hn'] <;> iassumption
  · iapply h5; iexact Hh

end Cert.KernelIdeal.Protocol

end
-- ==== Proof.Run.lean ====
/- The launch: the run of @main, with what every device's arrays hold at its end. -/
module

public import proofs.«01_k».proof.Proof.Setup
public import Idealize.ShloMosaic.Lib.Pipeline.CollectiveSegs
public import Idealize.ShloMosaic.Lib.Quiescent

@[expose] public section

noncomputable section

namespace Cert.KernelIdeal.Protocol

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The start of the body's triple, its end, and the waits of the staging copies. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufAny
  iintro ⟨Hs, -, H0, H1⟩
  isplitl [Hs]; · iexact Hs
  isplitl [H0]; · iexact H0
  iexact H1

/-- What the hops end with, regrouped: both buffers whole, every transfer semaphore at zero. -/
theorem hops_out (m : (ℓ : Loc nD τ sig) → Buf (Elt F) ℓ) (c : Dev nD) :
    iprop(bigSep Finset.univ (hopFin (F := F) c) ∗ slotAny (F := F) c false (31 : Fin 32) ∗ slotAny c true (31 : Fin 32))
      ⊢ iprop((bigSep Finset.univ fun k : DK => (semVal (dCell c k) 0 : sProp 𝕄)) ∗ bufAny (F := F) c false ∗ bufAny c true) := by
  have hf : (bigSep Finset.univ (hopFin (F := F) c) : sProp 𝕄) ⊢
      iprop((bigSep Finset.univ fun k : DK => (semVal (dCell c k) 0 : sProp 𝕄))
        ∗ (bigSep Finset.univ fun h : Fin 31 => slotAny (F := F) c false h.castSucc) ∗ bigSep Finset.univ fun h : Fin 31 => slotAny (F := F) c true h.castSucc) := by
    rw [bigSep_cells, ← bigSep_sep', ← bigSep_sep']
    refine bigSep_mono fun h _ => ?_
    unfold hopFin strFin
    show (_ : sProp 𝕄) ⊢ _
    iintro ⟨⟨Hr0, Hs0, Hx0⟩, Hr1, Hs1, Hx1⟩
    isplitl [Hr0 Hs0 Hr1 Hs1]
    · isplitl [Hs0 Hs1]
      · isplitl [Hs0]; · iexact Hs0
        iexact Hs1
      isplitl [Hr0]; · iexact Hr0
      iexact Hr1
    isplitl [Hx0] <;> iassumption
  iintro ⟨Hfin, H0, H1⟩
  ihave Hf := hf $$ Hfin
  icases Hf with ⟨Hsem, Hx0, Hx1⟩
  isplitl [Hsem]; · iexact Hsem
  unfold bufAny
  isplitl [H0 Hx0]
  · iapply (buf_join (F := F) c false (m ((cM false).view.loc (c : Thread nD τ))))
    iapply (Entails.of_eq (bigSep_last fun j : Fin 32 => slotAny (F := F) c false j).symm)
    isplitl [H0]; · iexact H0
    iexact Hx0
  · iapply (buf_join (F := F) c true (m ((cM true).view.loc (c : Thread nD τ))))
    iapply (Entails.of_eq (bigSep_last fun j : Fin 32 => slotAny (F := F) c true j).symm)
    isplitl [H1]; · iexact H1
    iexact Hx1

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁
  iintro ⟨Hfin, H0, H1, HzB⟩
  ihave Hx := (hops_out m c) $$ [Hfin H0 H1]
  · isplitl [Hfin]; · iexact Hfin
    isplitl [H0] <;> iassumption
  unfold bufAny Pipeline.ownSems0
  icases Hx with ⟨Hsem, Hb0, Hb1⟩
  isplitl [HzB]; · iexact HzB
  isplitl [Hsem]; · iexact Hsem
  isplitl [Hb0]; · iexact Hb0
  iexact Hb1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-- What device `c`'s array of window `w` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters: every weakly fair execution of @main terminates, and every
    final state has each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run hold what they held. -/
theorem finalA_a (c : Dev nD) : finalA m ρ c (0 : Fin 3) = (s₀ m ρ).mem (win0_0.arr.view.loc (c : Thread nD τ)) :=
  (dats (F := F) m ρ 0 c).arrAt_in (0 : Fin 3) rfl _
theorem finalA_b (c : Dev nD) : finalA m ρ c (1 : Fin 3) = (s₀ m ρ).mem (win0_1.arr.view.loc (c : Thread nD τ)) :=
  (dats (F := F) m ρ 0 c).arrAt_in (1 : Fin 3) rfl _

end Cert.KernelIdeal.Protocol

end
-- ==== Proof.Sums.lean ====
/- Sums: a sum over blocks, and a sum once around the ring of devices. -/
module

public import proofs.«01_k».proof.Proof.Run

@[expose] public section

namespace Cert.KernelIdeal.Sums

open Cert.KernelIdeal Cert.KernelIdeal.Protocol
open Idealize.ShloMosaic

/-- Entry `k` of block `d` of 32 blocks of 1024; row `r` of block `i` of 32 blocks of 64. -/
def col (d : Fin 32) (k : Fin 1024) : Fin 32768 := ⟨d.val * 1024 + k.val, by omega⟩
def row (i : Fin 32) (r : Fin 64) : Fin 2048 := ⟨i.val * 64 + r.val, by omega⟩

/-- A sum over all of them is the sum over the blocks of the sums over each. -/
theorem sum_col {M : Type} [AddCommMonoid M] (f : Fin 32768 → M) : ∑ x, f x = ∑ d : Fin 32, ∑ k : Fin 1024, f (col d k) := by
  rw [← Equiv.sum_comp (finProdFinEquiv : Fin 32 × Fin 1024 ≃ Fin 32768) f, Fintype.sum_prod_type]
  refine Finset.sum_congr rfl fun d _ => Finset.sum_congr rfl fun k _ => congrArg f (Fin.ext ?_)
  show k.val + 1024 * d.val = d.val * 1024 + k.val
  omega

/-- The device `s` places before `c`. -/
theorem back_val (s : ℕ) (c : Dev nD) : (prv^[s] c).val = (c.val + 31 * s) % 32 := by
  induction s generalizing c with
  | zero =>
    have h : c.val < 32 := c.isLt
    simp only [Function.iterate_zero, id]; omega
  | succ s ih =>
    rw [Function.iterate_succ_apply, ih]
    show ((c.val + 31) % 32 + 31 * s) % 32 = _
    omega

/-- Once around the ring from `c`, every device is met once. -/
theorem sum_around {M : Type} [AddCommMonoid M] (f : Dev nD → M) (c : Dev nD) :
    ∑ s ∈ Finset.range 32, f (prv^[s] c) = ∑ d : Dev nD, f d := by
  rw [Finset.sum_range]
  refine Fintype.sum_bijective (fun s : Fin 32 => prv^[s.val] c) ?_ _ _ fun _ => rfl
  refine (Finite.injective_iff_bijective (α := Fin 32)).mp fun a b h => Fin.ext ?_
  have h' := congrArg Fin.val h
  simp only [back_val] at h'
  have ha := a.isLt
  have hb := b.isLt
  omega

end Cert.KernelIdeal.Sums

end
-- ==== Proof.Value.lean ====
/- What the kernel's result holds, over extended reals: the sum over all devices of their products of blocks. -/
module

public import proofs.«01_k».proof.Proof.Sums
public import Idealize.ShloMosaic.Lib.MatmulPlain
public import Idealize.ShloMosaic.Lib.ValueIdx
public import Idealize.ShloMosaic.Lib.Pipeline.Value

@[expose] public section

noncomputable section

namespace Cert.KernelIdeal.Protocol

open Cert.KernelIdeal Cert.KernelIdeal.Gen Cert.KernelIdeal.Steps Cert.KernelIdeal.Sums
open Idealize.ShloMosaic Idealize.ShloMosaic.ValueIdx
open Idealize.ShloMosaic.TcCoe
open Idealize.ShloMosaic.Pipeline (Dat)

section Arrays

variable {F : FTy → Type} [FloatOps F] (m : (ℓ : Loc nD τ sig) → Buf (Elt F) ℓ) (ρ : Dev nD → PrngReg)

/-- The operands as staged are the argument arrays, whole. -/
theorem astg_eq (c : Dev nD) : astg m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
theorem bstg_eq (c : Dev nD) : bstg m ρ c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _

/-- The result array ends at what the body left: its one block, flushed once, is all of it. -/
theorem finalA_o (c : Dev nD) : finalA m ρ c (2 : Fin 3) = outAt m ρ c := by
  have whole := Memref.read_access_unit_zero (Elt F) main_v1 (off := fun a => win0_2.index (0 : Fin 1) a * main_v1.ty.shape.size a)
    (funext fun a => by fin_cases a <;> decide) (fun a => by fin_cases a <;> decide) (finalA m ρ c (2 : Fin 3))
  have flushed := ((dats m ρ 0 c).arrAt_succ (2 : Fin 3) (0 : Fin 1)).trans (if_pos (by decide))
  exact whole.symm.trans ((congrArg ((win0_2.blk (0 : Fin 1)).view.read (Elt F)) flushed).trans (View.read_write_univ _ _))

theorem ball_eq (c : Dev nD) : ball m ρ c = bstg m ρ c :=
  Memref.readAt_unit_zero (Elt F) cc0_stg1_0 (funext fun a => by fin_cases a <;> rfl) _ _

/-- A block of 64 rows as loaded: row `r` of block `i`. -/
theorem rows_apply (f : (cc0_stg0_0 : Ref sig .tc).ty.Contents (Elt F)) (i : Fin 32) (off : Fin S2048x1024.rank → ℕ) (hoff : off = ![64 * i.val, 0])
    (inb : ∀ a, off a + S64x1024.size a ≤ S2048x1024.size a) (r : Fin 64) (k : Fin 1024) :
    aM.view.readAt (Elt F) (Rect.unit (s := S2048x1024) off S64x1024.size inb).toLoadRect f (ix2 r k) = f (ix2 (row i r) k) := by
  subst hoff
  refine congrArg f (funext fun a => ?_)
  match a with
  | ⟨0, _⟩ => exact Fin.ext (show 64 * i.val + 1 * r.val = i.val * 64 + r.val by omega)
  | ⟨1, _⟩ => exact Fin.ext (show 0 + 1 * k.val = k.val by omega)

end Arrays

variable (m : (ℓ : Loc nD τ sig) → Buf (Elt Ideal) ℓ) (ρ : Dev nD → PrngReg)

/-- Device `d`'s argument arrays. -/
def argA (d : Dev nD) : S2048x1024.Idx → EReal := m ((d : Thread nD τ).loc main_arg0)
def argB (d : Dev nD) : S1024x2048.Idx → EReal := m ((d : Thread nD τ).loc main_arg1)

/-- Device `d`'s part of entry (row `r` of block `i`, column `j`) of the product. -/
def part (d : Dev nD) (i : Fin 32) (r : Fin 64) (j : Fin 2048) : EReal :=
  ∑ k : Fin 1024, argA m d (ix2 (row i r) k) * argB m d (ix2 k j)

/-- The matrix unit's product of two loaded blocks, into zero. -/
theorem pay_apply (a : Vec Ideal S64x1024 .f32) (b : Vec Ideal S1024x2048 .f32) (r : Fin 64) (j : Fin 2048) :
    k0_pay5 a b (ix2 r j) = ∑ k : Fin 1024, (show EReal from a (ix2 r k)) * (show EReal from b (ix2 k j)) := by
  unfold k0_pay5
  rw [shapeCast_self, shapeCast_self]
  refine (Ideal.matmul_plain_apply (M := 64) (K := 1024) (N := 2048) none a b _ r j).trans ?_
  rw [constant_apply, Ideal.ofBits_zero_f32, zero_add]

/-- The block of rows that device `c` adds to at slot `j`: the one bound for the device `31 - j` places on. -/
def blk (j : ℕ) (c : Dev nD) : Fin 32 := ⟨(c.val + 63 - j) % 32, Nat.mod_lt _ (by decide)⟩

theorem blk_prv (h : ℕ) (hh : h < 31) (c : Dev nD) : blk h (prv c) = blk (h + 1) c := by
  refine Fin.ext ?_
  show ((c.val + 31) % 32 + 63 - h) % 32 = (c.val + 63 - (h + 1)) % 32
  omega
theorem blk_last (c : Dev nD) : blk 31 c = c := by
  refine Fin.ext ?_
  have h : c.val < 32 := c.isLt
  show (c.val + 63 - 31) % 32 = c.val
  omega

theorem prod_apply (c : Dev nD) (h : Fin 31) (r : Fin 64) (j : Fin 2048) :
    (prod m ρ c h (ix2 r j) : EReal) = part m c (blk (h.val + 1) c) r j := by
  unfold prod part
  rw [pay_apply]
  refine Finset.sum_congr rfl fun k _ => ?_
  rw [ball_eq, bstg_eq]
  unfold rowsAt
  rw [rows_apply _ (blk (h.val + 1) c) _ (by rw [k0_off2_eq, show c.val + 62 - h.val = c.val + 63 - (h.val + 1) by omega]; rfl), astg_eq]
  rfl

theorem first_apply (c : Dev nD) (r : Fin 64) (j : Fin 2048) : (acc m ρ 0 c (ix2 r j) : EReal) = part m c (blk 0 c) r j := by
  rw [acc_zero]
  unfold part
  refine (pay_apply (rows0 m ρ c) (ball m ρ c) r j).trans ?_
  refine Finset.sum_congr rfl fun k _ => ?_
  rw [ball_eq, bstg_eq]
  unfold rows0
  rw [rows_apply _ (blk 0 c) _ (by rw [k0_off1_eq, show (c.val + 31) % 32 = (c.val + 63 - 0) % 32 by omega]; rfl), astg_eq]
  rfl

/-- The running sum in slot `j`: the parts of the last `j + 1` devices. -/
theorem acc_apply (h : Fin 32) (c : Dev nD) (r : Fin 64) (j : Fin 2048) :
    (acc m ρ h c (ix2 r j) : EReal) = ∑ s ∈ Finset.range (h.val + 1), part m (prv^[s] c) (blk h.val c) r j := by
  induction h using Fin.induction generalizing c with
  | zero => rw [first_apply]; simp
  | succ h ih =>
    rw [acc_succ]
    show (acc m ρ h.castSucc (prv c) (ix2 r j) : EReal) + prod m ρ c h (ix2 r j) = _
    rw [ih, prod_apply, Fin.val_castSucc, Fin.val_succ, blk_prv h.val h.isLt, Finset.sum_range_succ' _ (h.val + 1)]
    rfl

/-- The result on device `c`: its block of rows, summed over every device. -/
theorem outAt_apply (c : Dev nD) (r : Fin 64) (j : Fin 2048) : (show EReal from outAt m ρ c (ix2 r j)) = ∑ d : Dev nD, part m d c r j := by
  unfold outAt
  refine (acc_apply m ρ 31 c r j).trans ?_
  rw [show ((31 : Fin 32).val) = 31 from rfl, blk_last]
  exact sum_around (fun d => part m d c r j) c

end Cert.KernelIdeal.Protocol

end
-- ==== Proof.Equation.lean ====
/- The equation: device `c`'s block of the whole product is the sum over the devices of their parts. -/
module

public import proofs.«01_k».proof.Proof.Value
public import proofs.«01_k».proof.Proof.Gen.ReferenceIdeal.Run
public import Idealize.ShloMosaic.Lib.StackMember
public import Idealize.ShloMosaic.Lib.Layout

@[expose] public section

noncomputable section

namespace Cert.KernelIdeal.Equation

open Cert.KernelIdeal Cert.KernelIdeal.Protocol Cert.KernelIdeal.Sums
open Idealize.ShloMosaic Idealize.ShloMosaic.ValueIdx
open Idealize.ShloMosaic.TcCoe

/-- The whole operands and the whole product. -/
abbrev SA : Shape := ⟨2, ![2048, 32768]⟩
abbrev SB : Shape := ⟨2, ![32768, 2048]⟩
abbrev SO : Shape := ⟨2, ![2048, 2048]⟩

/-- What the reference computes. -/
def whole (A : FVec Ideal SA .f32) (B : FVec Ideal SB .f32) : FVec Ideal SO .f32 :=
  Host.dotGeneral (F := Ideal) Cert.ReferenceIdeal.dot_S2048x32768_S32768x2048_S2048x2048_1_0_0_1_n_n none A B

/-- An entry of the product, the contraction taken device by device. -/
theorem whole_apply (A : FVec Ideal SA .f32) (B : FVec Ideal SB .f32) (x y : Fin 2048) :
    (show EReal from whole A B (ix2 x y)) =
      ∑ d : Fin 32, ∑ k : Fin 1024, (show EReal from A (ix2 x (col d k))) * (show EReal from B (ix2 (col d k) y)) :=
  (StackMember.dotGeneral_plain_apply (m := 2048) (k := 32768) (n := 2048) none A B x y).trans
    (sum_col fun z => (show EReal from A (ix2 x z)) * (show EReal from B (ix2 z y)))

section Blocks

variable {α : Type}

/-- Device `c`'s block of columns of the left operand, of rows of the right one, of rows of the product. -/
theorem block_left (c : Fin 32) (v : SA.Idx → α) (x : Fin 2048) (k : Fin 1024) :
    Layout.block ⟨2, ![2048, 1024]⟩ SA 1 32 c v (by decide) (ix2 x k) = v (ix2 x (col c k)) :=
  congrArg v (funext fun a => by match a with | ⟨0, _⟩ => rfl | ⟨1, _⟩ => rfl)
theorem block_right (c : Fin 32) (v : SB.Idx → α) (k : Fin 1024) (y : Fin 2048) :
    Layout.block ⟨2, ![1024, 2048]⟩ SB 0 32 c v (by decide) (ix2 k y) = v (ix2 (col c k) y) :=
  congrArg v (funext fun a => by match a with | ⟨0, _⟩ => rfl | ⟨1, _⟩ => rfl)
theorem block_out (c : Fin 32) (v : SO.Idx → α) (r : Fin 64) (y : Fin 2048) :
    Layout.block ⟨2, ![64, 2048]⟩ SO 0 32 c v (by decide) (ix2 r y) = v (ix2 (row c r) y) :=
  congrArg v (funext fun a => by match a with | ⟨0, _⟩ => rfl | ⟨1, _⟩ => rfl)

end Blocks

variable (m : (ℓ : Loc nD τ sig) → Buf (Elt Ideal) ℓ) (ρ : Dev nD → PrngReg)

/-- Where the devices hold their blocks of `A` and `B`, the kernel leaves each its block of the product. -/
theorem outAt_eq (A : FVec Ideal SA .f32) (B : FVec Ideal SB .f32)
    (hA : ∀ d : Dev nD, argA m d = Layout.block ⟨2, ![2048, 1024]⟩ SA 1 32 d A (by decide))
    (hB : ∀ d : Dev nD, argB m d = Layout.block ⟨2, ![1024, 2048]⟩ SB 0 32 d B (by decide)) (c : Dev nD) :
    outAt m ρ c = Layout.block ⟨2, ![64, 2048]⟩ SO 0 32 c (whole A B) (by decide) := by
  funext i
  obtain ⟨r, y, rfl⟩ : ∃ (r : Fin 64) (y : Fin 2048), i = ix2 r y := ⟨_, _, eq_ix2 i⟩
  refine (outAt_apply m ρ c r y).trans ?_
  refine Eq.trans ?_ (block_out c (whole A B) r y).symm
  refine Eq.trans ?_ (whole_apply A B (row c r) y).symm
  refine Finset.sum_congr rfl fun d _ => Finset.sum_congr rfl fun k _ => ?_
  rw [hA, hB, block_left, block_right]

end Cert.KernelIdeal.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel, over any float values, ends with its arguments unchanged and its counters at zero. -/
theorem frame_run {F : FTy → Type} [FloatOps F]
    (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run KernelIdeal.defs _ _).mono
    (fun _ h => ⟨fun c => ⟨(h.1 c 0).trans (KernelIdeal.Protocol.finalA_a m ρ c), (h.1 c 1).trans (KernelIdeal.Protocol.finalA_b m ρ c)⟩, h.2⟩)
    (KernelIdeal.Protocol.run_main m ρ)

/-- The two programs' kernel bodies are the same text, and so are their tables of bodies. -/
theorem bodies_same : Kernel.defs₀ (F := Bits) = KernelIdeal.defs₀ (F := Bits) := by
  unfold Kernel.defs₀ KernelIdeal.defs₀
  refine congrArg _ (funext fun l => funext fun x => ?_)
  match l, x with
  | 0, (_, _) => rfl
theorem defs_same : Kernel.defs (F := Bits) = KernelIdeal.defs (F := Bits) :=
  congrArg (Pipeline.defs (Kernel.pcfgs (F := Bits))) bodies_same

/-- The kernel as it runs. -/
theorem frame_kernel : Cert.quiescent_Kernel := fun m ρ _ => by
  rw [defs_same]
  exact frame_run (F := Bits) m ρ
/-- The kernel over extended reals. -/
theorem frame_kernelIdeal : Cert.quiescent_KernelIdeal := fun m ρ _ => frame_run (F := Ideal) m ρ

/-- The reference: it has no counters. -/
theorem frame_referenceIdeal : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run m ρ)

/-- The kernel computes the reference's product, each device its block of rows. -/
theorem algebraic : Cert.algebraic_KernelIdeal_ReferenceIdeal := fun m ρ m' ρ' _ hin =>
  ⟨_, (θ_run Cert.KernelIdeal.defs _ _).mono
      (fun _ h c => ⟨((h.1 c 2).trans (KernelIdeal.Protocol.finalA_o m ρ c)).trans
          (KernelIdeal.Equation.outAt_eq m ρ _ _ (fun d => (hin d).1) (fun d => (hin d).2) c),
        (h.1 c 0).trans (KernelIdeal.Protocol.finalA_a m ρ c), (h.1 c 1).trans (KernelIdeal.Protocol.finalA_b m ρ c)⟩)
      (KernelIdeal.Protocol.run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
